-- ==== Defs.lean ====
def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v12)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v12) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v53) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v79)) (v1 : (c : Dev Cert.ProjIdeal.nD) → Buf (Elt Ideal) ((c.tc : Thread Cert.ProjIdeal.nD Cert.ProjIdeal.τ).loc Cert.ProjIdeal.main_v82)) (v2 : (c : Dev Cert.ProjIdeal.nD) → Buf (Elt Ideal) ((c.tc : Thread Cert.ProjIdeal.nD Cert.ProjIdeal.τ).loc Cert.ProjIdeal.main_v86)) (v3 : (c : Dev Cert.ProjIdeal.nD) → Buf (Elt Ideal) ((c.tc : Thread Cert.ProjIdeal.nD Cert.ProjIdeal.τ).loc Cert.ProjIdeal.main_v89)) (v4 : (c : Dev Cert.ProjIdeal.nD) → Buf (Elt Ideal) ((c.tc : Thread Cert.ProjIdeal.nD Cert.ProjIdeal.τ).loc Cert.ProjIdeal.main_v92)) (v5 : (c : Dev Cert.ProjIdeal.nD) → Buf (Elt Ideal) ((c.tc : Thread Cert.ProjIdeal.nD Cert.ProjIdeal.τ).loc Cert.ProjIdeal.main_v96)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v79) = v0 c
          ∧ r.2.mem ((c.tc : Thread Cert.ProjIdeal.nD Cert.ProjIdeal.τ).loc Cert.ProjIdeal.main_v82) = v1 c
          ∧ r.2.mem ((c.tc : Thread Cert.ProjIdeal.nD Cert.ProjIdeal.τ).loc Cert.ProjIdeal.main_v86) = v2 c
          ∧ r.2.mem ((c.tc : Thread Cert.ProjIdeal.nD Cert.ProjIdeal.τ).loc Cert.ProjIdeal.main_v89) = v3 c
          ∧ r.2.mem ((c.tc : Thread Cert.ProjIdeal.nD Cert.ProjIdeal.τ).loc Cert.ProjIdeal.main_v92) = v4 c
          ∧ r.2.mem ((c.tc : Thread Cert.ProjIdeal.nD Cert.ProjIdeal.τ).loc Cert.ProjIdeal.main_v96) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v161) = v0 c
          ∧ r.2.mem ((c.tc : Thread Cert.ProjReferenceIdeal.nD Cert.ProjReferenceIdeal.τ).loc Cert.ProjReferenceIdeal.main_v162) = v1 c
          ∧ r.2.mem ((c.tc : Thread Cert.ProjReferenceIdeal.nD Cert.ProjReferenceIdeal.τ).loc Cert.ProjReferenceIdeal.main_v163) = v2 c
          ∧ r.2.mem ((c.tc : Thread Cert.ProjReferenceIdeal.nD Cert.ProjReferenceIdeal.τ).loc Cert.ProjReferenceIdeal.main_v164) = v3 c
          ∧ r.2.mem ((c.tc : Thread Cert.ProjReferenceIdeal.nD Cert.ProjReferenceIdeal.τ).loc Cert.ProjReferenceIdeal.main_v165) = v4 c
          ∧ r.2.mem ((c.tc : Thread Cert.ProjReferenceIdeal.nD Cert.ProjReferenceIdeal.τ).loc Cert.ProjReferenceIdeal.main_v166) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_Kernel_KernelIdeal : Prop :=
  True

def Claim : Prop :=
  ∃ (hPost : Cert.Post.Facts) (hPostIdeal : Cert.PostIdeal.Facts) (hPostReferenceIdeal : Cert.PostReferenceIdeal.Facts) (hProj : Cert.Proj.Facts) (hProjIdeal : Cert.ProjIdeal.Facts) (hProjReferenceIdeal : Cert.ProjReferenceIdeal.Facts) (hKernel : Cert.Kernel.Facts) (hKernelIdeal : Cert.KernelIdeal.Facts) (hReferenceIdeal : Cert.ReferenceIdeal.Facts),
    quiescent_Post (hPost := hPost)
    ∧ quiescent_PostIdeal (hPostIdeal := hPostIdeal)
    ∧ quiescent_PostReferenceIdeal (hPostReferenceIdeal := hPostReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Kernel (hKernel := hKernel)
    ∧ quiescent_KernelIdeal (hKernelIdeal := hKernelIdeal)
    ∧ quiescent_ReferenceIdeal (hReferenceIdeal := hReferenceIdeal)
    ∧ preserves_Post_PostIdeal
    ∧ algebraic_PostIdeal_PostReferenceIdeal (hPostIdeal := hPostIdeal) (hPostReferenceIdeal := hPostReferenceIdeal)
    ∧ preserves_Proj_ProjIdeal
    ∧ algebraic_ProjIdeal_ProjReferenceIdeal (hProjIdeal := hProjIdeal) (hProjReferenceIdeal := hProjReferenceIdeal)
    ∧ preserves_Kernel_KernelIdeal
-- ==== Post.lean ====
abbrev S8x4096x1024 : Shape := ⟨3, ![8, 4096, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S1024x1024 : Shape := ⟨2, ![1024, 1024]⟩
abbrev S32768x1024 : Shape := ⟨2, ![32768, 1024]⟩
abbrev S1024 : Shape := ⟨1, ![1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 22
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S1024x1024, .f32⟩
  | .hbm, ⟨16, _⟩ => ⟨S1024x1024, .bf16⟩
  | .hbm, ⟨17, _⟩ => ⟨S32768x1024, .f32⟩
  | .hbm, ⟨18, _⟩ => ⟨S8x4096x1024, .bf16⟩
  | .hbm, ⟨19, _⟩ => ⟨S32768x1024, .bf16⟩
  | .hbm, ⟨20, _⟩ => ⟨S32768x1024, .f32⟩
  | .hbm, ⟨21, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PostReferenceIdeal.lean ====
abbrev S8x4096x1024 : Shape := ⟨3, ![8, 4096, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S8x4096x2816 : Shape := ⟨3, ![8, 4096, 2816]⟩
abbrev S2816x1024 : Shape := ⟨2, ![2816, 1024]⟩

abbrev nBuf : Space → Nat
  | .hbm => 80
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1x1024, .f32⟩
  | .hbm, ⟨9, _⟩ => ⟨S1024x1024, .f32⟩
  | .hbm, ⟨10, _⟩ => ⟨S8x4096x1024, .f32⟩
  | .hbm, ⟨11, _⟩ => ⟨S1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S1024, .f32⟩
  | .hbm, ⟨30, _⟩ => ⟨S8x4096x1024, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S8x4096x1, .f32⟩
  | .hbm, ⟨41, _⟩ => ⟨S8x4096x1024, .f32⟩
  | .hbm, ⟨42, _⟩ => ⟨S8x4096x1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | .hbm, ⟨46, _⟩ => ⟨S1024x2816, .f32⟩
  | .hbm, ⟨47, _⟩ => ⟨S8x4096x2816, .f32⟩
  | .hbm, ⟨48, _⟩ => ⟨S8x4096x2816, .f32⟩
  | .hbm, ⟨49, _⟩ => ⟨S8x4096x2816, .f32⟩
  | .hbm, ⟨50, _⟩ => ⟨S_, .f32⟩
  | .hbm, ⟨51, _⟩ => ⟨S8x4096x2816, .f32⟩
  | .hbm, ⟨52, _⟩ => ⟨S8x4096x2816, .f32⟩
  | .hbm, ⟨53, _⟩ => ⟨S_, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S1024x2816, .f32⟩
  | .hbm, ⟨58, _⟩ => ⟨S8x4096x2816, .f32⟩
  | .hbm, ⟨59, _⟩ => ⟨S8x4096x2816, .f32⟩
  | .hbm, ⟨60, _⟩ => ⟨S2816x1024, .f32⟩
  | .hbm, ⟨61, _⟩ => ⟨S8x4096x1024, .f32⟩
  | .hbm, ⟨62, _⟩ => ⟨S1024, .f32⟩
  | .hbm, ⟨63, _⟩ => ⟨S8x4096x1024, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4096x1, .f32⟩
  | .hbm, ⟨74, _⟩ => ⟨S8x4096x1024, .f32⟩
  | .hbm, ⟨75, _⟩ => ⟨S8x4096x1024, .f32⟩
  | .hbm, ⟨76, _⟩ => ⟨S1x1x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_5 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]
-- ==== Proj.lean ====
abbrev S8x4096x1024 : Shape := ⟨3, ![8, 4096, 1024]⟩
abbrev S1x1024 : Shape := ⟨2, ![1, 1024]⟩
abbrev S1x1024x1536 : Shape := ⟨3, ![1, 1024, 1536]⟩
abbrev S1x64 : Shape := ⟨2, ![1, 64]⟩
abbrev S1536 : Shape := ⟨1, ![1536]⟩
abbrev S128 : Shape := ⟨1, ![128]⟩
abbrev S256x256 : Shape := ⟨2, ![256, 256]⟩
abbrev S4096 : Shape := ⟨1, ![4096]⟩
abbrev S4096x1 : Shape := ⟨2, ![4096, 1]⟩
abbrev S1024x1536 : Shape := ⟨2, ![1024, 1536]⟩
abbrev S_ : Shape := ⟨0, ![]⟩
abbrev S1536x1 : Shape := ⟨2, ![1536, 1]⟩
abbrev S64 : Shape := ⟨1, ![64]⟩
abbrev S128x1 : Shape := ⟨2, ![128, 1]⟩
abbrev S1x128 : Shape := ⟨2, ![1, 128]⟩
abbrev S4x128 : Shape := ⟨2, ![4, 128]⟩
abbrev S512 : Shape := ⟨1, ![512]⟩
abbrev S640 : Shape := ⟨1, ![640]⟩
abbrev S1x640 : Shape := ⟨2, ![1, 640]⟩
abbrev S16 : Shape := ⟨1, ![16]⟩
abbrev S1x16 : Shape := ⟨2, ![1, 16]⟩
abbrev S4096x16 : Shape := ⟨2, ![4096, 16]⟩
abbrev S4096x32 : Shape := ⟨2, ![4096, 32]⟩
abbrev S32 : Shape := ⟨1, ![32]⟩
abbrev S1x32 : Shape := ⟨2, ![1, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S8x4096x512 : Shape := ⟨3, ![8, 4096, 512]⟩
abbrev S8x4096x128 : Shape := ⟨3, ![8, 4096, 128]⟩
abbrev S8x16x160x256 : Shape := ⟨4, ![8, 16, 160, 256]⟩
abbrev S8x32x160x128 : Shape := ⟨4, ![8, 32, 160, 128]⟩
abbrev S1x1024x1024 : Shape := ⟨3, ![1, 1024, 1024]⟩
abbrev S1024x128 : Shape := ⟨2, ![1024, 128]⟩
abbrev S1x1024x512 : Shape := ⟨3, ![1, 1024, 512]⟩
abbrev S1x1024x128 : Shape := ⟨3, ![1, 1024, 128]⟩
abbrev S1x4x160x256 : Shape := ⟨4, ![1, 4, 160, 256]⟩
abbrev S1x8x160x128 : Shape := ⟨4, ![1, 8, 160, 128]⟩
abbrev S1024x1024 : Shape := ⟨2, ![1024, 1024]⟩
abbrev S1024 : Shape := ⟨1, ![1024]⟩
abbrev S1024x1 : Shape := ⟨2, ![1024, 1]⟩
abbrev S1024x768 : Shape := ⟨2, ![1024, 768]⟩
abbrev S1024x256 : Shape := ⟨2, ![1024, 256]⟩
abbrev S1x256 : Shape := ⟨2, ![1, 256]⟩
abbrev S128x128 : Shape := ⟨2, ![128, 128]⟩
abbrev S128x1024 : Shape := ⟨2, ![128, 1024]⟩
abbrev S16x256 : Shape := ⟨2, ![16, 256]⟩
abbrev S64x256 : Shape := ⟨2, ![64, 256]⟩
abbrev S1x1x64x256 : Shape := ⟨4, ![1, 1, 64, 256]⟩
abbrev S1x1x16x256 : Shape := ⟨4, ![1, 1, 16, 256]⟩
abbrev S16x128 : Shape := ⟨2, ![16, 128]⟩
abbrev S64x128 : Shape := ⟨2, ![64, 128]⟩
abbrev S1x1x64x128 : Shape := ⟨4, ![1, 1, 64, 128]⟩
abbrev S1x1x16x128 : Shape := ⟨4, ![1, 1, 16, 128]⟩
abbrev S8x4096x4x2x2x32 : Shape := ⟨6, ![8, 4096, 4, 2, 2, 32]⟩
abbrev S8x4096x2x4x2x32 : Shape := ⟨6, ![8, 4096, 2, 4, 2, 32]⟩
abbrev S8x4096x8x64 : Shape := ⟨4, ![8, 4096, 8, 64]⟩
abbrev S8x4096x1x2x2x32 : Shape := ⟨6, ![8, 4096, 1, 2, 2, 32]⟩
abbrev S8x4096x2x1x2x32 : Shape := ⟨6, ![8, 4096, 2, 1, 2, 32]⟩
abbrev S8x4096x2x64 : Shape := ⟨4, ![8, 4096, 2, 64]⟩
abbrev S8x16x2x80x256 : Shape := ⟨5, ![8, 16, 2, 80, 256]⟩
abbrev S8x16x2x64x256 : Shape := ⟨5, ![8, 16, 2, 64, 256]⟩
abbrev S8x16x256x2x64 : Shape := ⟨5, ![8, 16, 256, 2, 64]⟩
abbrev S8x32x2x80x128 : Shape := ⟨5, ![8, 32, 2, 80, 128]⟩
abbrev S8x32x2x64x128 : Shape := ⟨5, ![8, 32, 2, 64, 128]⟩
abbrev S8x32x128x2x64 : Shape := ⟨5, ![8, 32, 128, 2, 64]⟩

abbrev nBuf : Space → Nat
  | .hbm => 123
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x1536, .f32⟩
  | .hbm, ⟨3, _⟩ => ⟨S1x64, .f32⟩
  | .hbm, ⟨4, _⟩ => ⟨S1x64, .f32⟩
  | .hbm, ⟨5, _⟩ => ⟨S1536, .i32⟩
  | .hbm, ⟨6, _⟩ => ⟨S1536, .i1⟩
  | .hbm, ⟨7, _⟩ => ⟨S128, .i32⟩
  | .hbm, ⟨8, _⟩ => ⟨S128, .i1⟩
  | .hbm, ⟨9, _⟩ => ⟨S128, .i1⟩
  | .hbm, ⟨10, _⟩ => ⟨S256x256, .bf16⟩
  | .hbm, ⟨11, _⟩ => ⟨S4096, .f32⟩
  | .hbm, ⟨12, _⟩ => ⟨S4096x1, .f32⟩
  | .hbm, ⟨13, _⟩ => ⟨S4096, .f32⟩
  | .hbm, ⟨14, _⟩ => ⟨S4096x1, .f32⟩
  | .hbm, ⟨15, _⟩ => ⟨S4096, .f32⟩
  | .hbm, ⟨16, _⟩ => ⟨S4096x1, .f32⟩
  | .hbm, ⟨17, _⟩ => ⟨S1024x1536, .f32⟩
  | .hbm, ⟨18, _⟩ => ⟨S_, .i32⟩
  | .hbm, ⟨19, _⟩ => ⟨S1536, .i32⟩
  | .hbm, ⟨20, _⟩ => ⟨S1536, .i32⟩
  | .hbm, ⟨21, _⟩ => ⟨S1536, .i32⟩
  | .hbm, ⟨22, _⟩ => ⟨S1536x1, .i32⟩
  | .hbm, ⟨23, _⟩ => ⟨S1024x1536, .f32⟩
  | .hbm, ⟨24, _⟩ => ⟨S1024x1536, .bf16⟩
  | .hbm, ⟨25, _⟩ => ⟨S64, .f32⟩
  | .hbm, ⟨26, _⟩ => ⟨S_, .i32⟩
  | .hbm, ⟨27, _⟩ => ⟨S128, .i32⟩
  | .hbm, ⟨28, _⟩ => ⟨S128, .i32⟩
  | .hbm, ⟨29, _⟩ => ⟨S128, .i32⟩
  | .hbm, ⟨30, _⟩ => ⟨S128x1, .i32⟩
  | .hbm, ⟨31, _⟩ => ⟨S128, .f32⟩
  | .hbm, ⟨32, _⟩ => ⟨S1x128, .f32⟩
  | .hbm, ⟨33, _⟩ => ⟨S4x128, .f32⟩
  | .hbm, ⟨34, _⟩ => ⟨S512, .f32⟩
  | .hbm, ⟨35, _⟩ => ⟨S64, .f32⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S128, .i32⟩
  | .hbm, ⟨40, _⟩ => ⟨S128x1, .i32⟩
  | .hbm, ⟨41, _⟩ => ⟨S128, .f32⟩
  | .hbm, ⟨42, _⟩ => ⟨S640, .f32⟩
  | .hbm, ⟨43, _⟩ => ⟨S1x640, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S1x16, .f32⟩
  | .hbm, ⟨53, _⟩ => ⟨S4096x16, .f32⟩
  | .hbm, ⟨54, _⟩ => ⟨S4096x16, .f32⟩
  | .hbm, ⟨55, _⟩ => ⟨S4096x16, .f32⟩
  | .hbm, ⟨56, _⟩ => ⟨S1x16, .f32⟩
  | .hbm, ⟨57, _⟩ => ⟨S4096x16, .f32⟩
  | .hbm, ⟨58, _⟩ => ⟨S4096x16, .f32⟩
  | .hbm, ⟨59, _⟩ => ⟨S4096x16, .f32⟩
  | .hbm, ⟨60, _⟩ => ⟨S4096x32, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S1x32, .f32⟩
  | .hbm, ⟨70, _⟩ => ⟨S4096x32, .f32⟩
  | .hbm, ⟨71, _⟩ => ⟨S4096x32, .f32⟩
  | .hbm, ⟨72, _⟩ => ⟨S4096x32, .f32⟩
  | .hbm, ⟨73, _⟩ => ⟨S4096x32, .f32⟩
  | .hbm, ⟨74, _⟩ => ⟨S4096x32, .f32⟩
  | .hbm, ⟨75, _⟩ => ⟨S1x4096x1x32, .f32⟩
  | .hbm, ⟨76, _⟩ => ⟨S1x4096x4x32, .f32⟩
  | .hbm, ⟨77, _⟩ => ⟨S4096x128, .f32⟩
  | .hbm, ⟨78, _⟩ => ⟨S4096x32, .f32⟩
  | .hbm, ⟨79, _⟩ => ⟨S4096x32, .f32⟩
  | .hbm, ⟨80, _⟩ => ⟨S4096x128, .f32⟩
  | .hbm, ⟨81, _⟩ => ⟨S4096x32, .f32⟩
  | .hbm, ⟨82, _⟩ => ⟨S4096x32, .f32⟩
  | .hbm, ⟨83, _⟩ => ⟨S1x4096x1x32, .f32⟩
  | .hbm, ⟨84, _⟩ => ⟨S1x4096x4x32, .f32⟩
  | .hbm, ⟨85, _⟩ => ⟨S4096x128, .f32⟩
  | .hbm, ⟨86, _⟩ => ⟨S4096x32, .f32⟩
  | .hbm, ⟨87, _⟩ => ⟨S4096x32, .f32⟩
  | .hbm, ⟨88, _⟩ => ⟨S4096x128, .f32⟩
  | .hbm, ⟨89, _⟩ => ⟨S4096x32, .f32⟩
  | .hbm, ⟨90, _⟩ => ⟨S4096x32, .f32⟩
  | .hbm, ⟨91, _⟩ => ⟨S1x4096x1x32, .f32⟩
  | .hbm, ⟨92, _⟩ => ⟨S1x4096x4x32, .f32⟩
  | .hbm, ⟨93, _⟩ => ⟨S4096x128, .f32⟩
  | .hbm, ⟨94, _⟩ => ⟨S4096x32, .f32⟩
  | .hbm, ⟨95, _⟩ => ⟨S4096x32, .f32⟩
  | .hbm, ⟨96, _⟩ => ⟨S4096x128, .f32⟩
  | .hbm, ⟨97, _⟩ => ⟨S8x4096x512, .bf16⟩
  | .hbm, ⟨98, _⟩ => ⟨S8x4096x128, .bf16⟩
  | .hbm, ⟨99, _⟩ => ⟨S8x16x160x256, .bf16⟩
  | .hbm, ⟨100, _⟩ => ⟨S8x4096x512, .bf16⟩
  | .hbm, ⟨101, _⟩ => ⟨S8x4096x128, .bf16⟩
  | .hbm, ⟨102, _⟩ => ⟨S8x32x160x128, .bf16⟩
  | .hbm, ⟨103, _⟩ => ⟨S8x4096x4x2x2x32, .bf16⟩
  | .hbm, ⟨104, _⟩ => ⟨S8x4096x2x4x2x32, .bf16⟩
  | .hbm, ⟨105, _⟩ => ⟨S8x4096x8x64, .bf16⟩
  | .hbm, ⟨106, _⟩ => ⟨S8x4096x1x2x2x32, .bf16⟩
  | .hbm, ⟨107, _⟩ => ⟨S8x4096x2x1x2x32, .bf16⟩
  | .hbm, ⟨108, _⟩ => ⟨S8x4096x2x64, .bf16⟩
  | .hbm, ⟨109, _⟩ => ⟨S8x16x2x80x256, .bf16⟩
  | .hbm, ⟨110, _⟩ => ⟨S8x16x2x64x256, .bf16⟩
  | .hbm, ⟨111, _⟩ => ⟨S8x16x256x2x64, .bf16⟩
  | .hbm, ⟨112, _⟩ => ⟨S8x4096x2x64, .bf16⟩
  | .hbm, ⟨113, _⟩ => ⟨S8x4096x4x2x2x32, .bf16⟩
  | .hbm, ⟨114, _⟩ => ⟨S8x4096x2x4x2x32, .bf16⟩
  | .hbm, ⟨115, _⟩ => ⟨S8x4096x8x64, .bf16⟩
  | .hbm, ⟨116, _⟩ => ⟨S8x4096x1x2x2x32, .bf16⟩
  | .hbm, ⟨117, _⟩ => ⟨S8x4096x2x1x2x32, .bf16⟩
  | .hbm, ⟨118, _⟩ => ⟨S8x4096x2x64, .bf16⟩
  | .hbm, ⟨119, _⟩ => ⟨S8x32x2x80x128, .bf16⟩
  | .hbm, ⟨120, _⟩ => ⟨S8x32x2x64x128, .bf16⟩
  | .hbm, ⟨121, _⟩ => ⟨S8x32x128x2x64, .bf16⟩
  | .hbm, ⟨122, _⟩ => ⟨S8x4096x2x64, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1536, .bf16⟩
  | .local _ .vmem, ⟨4, _⟩ => ⟨S1x640, .f32⟩
  | .local _ .vmem, ⟨5, _⟩ => ⟨S256x256, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1x1024x512, .bf16⟩
  | .local _ .vmem, ⟨19, _⟩ => ⟨S1x1024x512, .bf16⟩
  | .local _ .vmem, ⟨20, _⟩ => ⟨S1x1024x128, .bf16⟩
  | .local _ .vmem, ⟨21, _⟩ => ⟨S1x1024x128, .bf16⟩
  | .local _ .vmem, ⟨22, _⟩ => ⟨S1x4x160x256, .bf16⟩
  | .local _ .vmem, ⟨23, _⟩ => ⟨S1x4x160x256, .bf16⟩
  | .local _ .vmem, ⟨24, _⟩ => ⟨S1x1024x512, .bf16⟩
  | .local _ .vmem, ⟨25, _⟩ => ⟨S1x1024x512, .bf16⟩
  | .local _ .vmem, ⟨26, _⟩ => ⟨S1x1024x128, .bf16⟩
  | .local _ .vmem, ⟨27, _⟩ => ⟨S1x1024x128, .bf16⟩
  | .local _ .vmem, ⟨28, _⟩ => ⟨S1x8x160x128, .bf16⟩
  | .local _ .vmem, ⟨29, _⟩ => ⟨S1x8x160x128, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_cst : Ref sig .tc := ⟨.hbm, 10, rfl⟩
abbrev main_cst_4 : Ref sig .tc := ⟨.hbm, 11, rfl⟩
abbrev main_v0 : Ref sig .tc := ⟨.hbm, 12, rfl⟩
abbrev main_cst_5 : Ref sig .tc := ⟨.hbm, 13, rfl⟩
abbrev main_v1 : Ref sig .tc := ⟨.hbm, 14, rfl⟩
abbrev main_cst_6 : Ref sig .tc := ⟨.hbm, 15, rfl⟩
abbrev main_v2 : Ref sig .tc := ⟨.hbm, 16, rfl⟩
abbrev main_v3 : Ref sig .tc := ⟨.hbm, 17, rfl⟩
abbrev main_c_7 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_8 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_9 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_10 : Ref sig .tc := ⟨.hbm, 46, rfl⟩
abbrev main_v29 : Ref sig .tc := ⟨.hbm, 47, rfl⟩
abbrev main_v30 : Ref sig .tc := ⟨.hbm, 48, rfl⟩
abbrev main_cst_11 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76_0 : Ref sig .tc := ⟨.hbm, 97, rfl⟩
abbrev main_v76_1 : Ref sig .tc := ⟨.hbm, 98, rfl⟩
abbrev main_v76_2 : Ref sig .tc := ⟨.hbm, 99, rfl⟩
abbrev main_v76_3 : Ref sig .tc := ⟨.hbm, 100, rfl⟩
abbrev main_v76_4 : Ref sig .tc := ⟨.hbm, 101, rfl⟩
abbrev main_v76_5 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x160x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x160x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ProjReferenceIdeal.lean ====
abbrev S8x4096x1024 : Shape := ⟨3, ![8, 4096, 1024]⟩
abbrev S1x1024 : Shape := ⟨2, ![1, 1024]⟩
abbrev S1x1024x1536 : Shape := ⟨3, ![1, 1024, 1536]⟩
abbrev S1x64 : Shape := ⟨2, ![1, 64]⟩
abbrev S4096 : Shape := ⟨1, ![4096]⟩
abbrev S64 : Shape := ⟨1, ![64]⟩
abbrev S64x1 : Shape := ⟨2, ![64, 1]⟩
abbrev S64x64 : Shape := ⟨2, ![64, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S32 : Shape := ⟨1, ![32]⟩
abbrev S1x32 : Shape := ⟨2, ![1, 32]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1024x1536 : Shape := ⟨2, ![1024, 1536]⟩
abbrev S8x4096x1536 : Shape := ⟨3, ![8, 4096, 1536]⟩
abbrev S8x4096x512 : Shape := ⟨3, ![8, 4096, 512]⟩
abbrev S8x4096x128 : Shape := ⟨3, ![8, 4096, 128]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S1x4096x1x32 : Shape := ⟨4, ![1, 4096, 1, 32]⟩
abbrev S8x4096x8x32 : Shape := ⟨4, ![8, 4096, 8, 32]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S8x4096x2x32 : Shape := ⟨4, ![8, 4096, 2, 32]⟩

abbrev nBuf : Space → Nat
  | .hbm => 185
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x1536, .f32⟩
  | 3 => ⟨S1x64, .f32⟩
  | 4 => ⟨S1x64, .f32⟩
  | 5 => ⟨S4096, .f32⟩
  | 6 => ⟨S64, .f32⟩
  | 7 => ⟨S64x1, .f32⟩
  | 8 => ⟨S64x64, .f32⟩
  | 9 => ⟨S4096, .f32⟩
  | 10 => ⟨S64, .f32⟩
  | 11 => ⟨S1x64, .f32⟩
  | 12 => ⟨S64x64, .f32⟩
  | 13 => ⟨S4096, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S4096x1, .f32⟩
  | 23 => ⟨S1x16, .f32⟩
  | 24 => ⟨S4096x16, .f32⟩
  | 25 => ⟨S4096x16, .f32⟩
  | 26 => ⟨S4096x16, .f32⟩
  | 27 => ⟨S4096x1, .f32⟩
  | 28 => ⟨S1x16, .f32⟩
  | 29 => ⟨S4096x16, .f32⟩
  | 30 => ⟨S4096x16, .f32⟩
  | 31 => ⟨S4096x16, .f32⟩
  | 32 => ⟨S4096x32, .f32⟩
  | 33 => ⟨S32, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S4096x1, .f32⟩
  | 42 => ⟨S1x32, .f32⟩
  | 43 => ⟨S4096x32, .f32⟩
  | 44 => ⟨S4096x32, .f32⟩
  | 45 => ⟨S4096x32, .f32⟩
  | 46 => ⟨S1024, .f32⟩
  | 47 => ⟨S8x4096x1024, .f32⟩
  | 48 => ⟨S_, .f32⟩
  | 49 => ⟨S8x4096, .f32⟩
  | 50 => ⟨S8x4096x1, .f32⟩
  | 51 => ⟨S_, .f32⟩
  | 52 => ⟨S8x4096x1, .f32⟩
  | 53 => ⟨S8x4096x1, .f32⟩
  | 54 => ⟨S_, .f32⟩
  | 55 => ⟨S8x4096x1, .f32⟩
  | 56 => ⟨S8x4096x1, .f32⟩
  | 57 => ⟨S8x4096x1, .f32⟩
  | 58 => ⟨S8x4096x1024, .f32⟩
  | 59 => ⟨S8x4096x1024, .f32⟩
  | 60 => ⟨S1x1x1024, .f32⟩
  | 61 => ⟨S8x4096x1024, .f32⟩
  | 62 => ⟨S8x4096x1024, .f32⟩
  | 63 => ⟨S1024x1536, .f32⟩
  | 64 => ⟨S8x4096x1536, .f32⟩
  | 65 => ⟨S8x4096x512, .f32⟩
  | 66 => ⟨S8x4096x128, .f32⟩
  | 67 => ⟨S8x4096x128, .f32⟩
  | 68 => ⟨S8x4096x512, .f32⟩
  | 69 => ⟨S8x4096x128, .f32⟩
  | 70 => ⟨S8x4096x128, .f32⟩
  | 71 => ⟨S8x4096x8x64, .f32⟩
  | 72 => ⟨S64, .f32⟩
  | 73 => ⟨S8x4096x8x64, .f32⟩
  | 74 => ⟨S_, .f32⟩
  | 75 => ⟨S8x4096x8, .f32⟩
  | 76 => ⟨S8x4096x8x1, .f32⟩
  | 77 => ⟨S_, .f32⟩
  | 78 => ⟨S8x4096x8x1, .f32⟩
  | 79 => ⟨S8x4096x8x1, .f32⟩
  | 80 => ⟨S_, .f32⟩
  | 81 => ⟨S8x4096x8x1, .f32⟩
  | 82 => ⟨S8x4096x8x1, .f32⟩
  | 83 => ⟨S8x4096x8x1, .f32⟩
  | 84 => ⟨S8x4096x8x64, .f32⟩
  | 85 => ⟨S8x4096x8x64, .f32⟩
  | 86 => ⟨S1x1x1x64, .f32⟩
  | 87 => ⟨S8x4096x8x64, .f32⟩
  | 88 => ⟨S8x4096x8x64, .f32⟩
  | 89 => ⟨S4096x32, .f32⟩
  | 90 => ⟨S1x4096x1x32, .f32⟩
  | 91 => ⟨S4096x32, .f32⟩
  | 92 => ⟨S1x4096x1x32, .f32⟩
  | 93 => ⟨S8x4096x8x32, .f32⟩
  | 94 => ⟨S8x4096x8x32, .f32⟩
  | 95 => ⟨S8x4096x8x32, .f32⟩
  | 96 => ⟨S8x4096x8x32, .f32⟩
  | 97 => ⟨S8x4096x8x32, .f32⟩
  | 98 => ⟨S8x4096x8x32, .f32⟩
  | 99 => ⟨S8x4096x8x32, .f32⟩
  | 100 => ⟨S8x4096x8x32, .f32⟩
  | 101 => ⟨S8x4096x8x32, .f32⟩
  | 102 => ⟨S8x4096x8x32, .f32⟩
  | 103 => ⟨S8x4096x8x32, .f32⟩
  | 104 => ⟨S8x4096x8x32, .f32⟩
  | 105 => ⟨S8x4096x8x64, .f32⟩
  | 106 => ⟨S8x4096x2x64, .f32⟩
  | 107 => ⟨S64, .f32⟩
  | 108 => ⟨S8x4096x2x64, .f32⟩
  | 109 => ⟨S_, .f32⟩
  | 110 => ⟨S8x4096x2, .f32⟩
  | 111 => ⟨S8x4096x2x1, .f32⟩
  | 112 => ⟨S_, .f32⟩
  | 113 => ⟨S8x4096x2x1, .f32⟩
  | 114 => ⟨S8x4096x2x1, .f32⟩
  | 115 => ⟨S_, .f32⟩
  | 116 => ⟨S8x4096x2x1, .f32⟩
  | 117 => ⟨S8x4096x2x1, .f32⟩
  | 118 => ⟨S8x4096x2x1, .f32⟩
  | 119 => ⟨S8x4096x2x64, .f32⟩
  | 120 => ⟨S8x4096x2x64, .f32⟩
  | 121 => ⟨S1x1x1x64, .f32⟩
  | 122 => ⟨S8x4096x2x64, .f32⟩
  | 123 => ⟨S8x4096x2x64, .f32⟩
  | 124 => ⟨S4096x32, .f32⟩
  | 125 => ⟨S1x4096x1x32, .f32⟩
  | 126 => ⟨S4096x32, .f32⟩
  | 127 => ⟨S1x4096x1x32, .f32⟩
  | _ => ⟨S8x4096x1024, .f32⟩

abbrev hbmTy0_1 (i : Nat) : BufTy := match i % 128 with
  | 0 => ⟨S8x4096x2x32, .f32⟩
  | 1 => ⟨S8x4096x2x32, .f32⟩
  | 2 => ⟨S8x4096x2x32, .f32⟩
  | 3 => ⟨S8x4096x2x32, .f32⟩
  | 4 => ⟨S8x4096x2x32, .f32⟩
  | 5 => ⟨S8x4096x2x32, .f32⟩
  | 6 => ⟨S8x4096x2x32, .f32⟩
  | 7 => ⟨S8x4096x2x32, .f32⟩
  | 8 => ⟨S8x4096x2x32, .f32⟩
  | 9 => ⟨S8x4096x2x32, .f32⟩
  | 10 => ⟨S8x4096x2x32, .f32⟩
  | 11 => ⟨S8x4096x2x32, .f32⟩
  | 12 => ⟨S8x4096x2x64, .f32⟩
  | 13 => ⟨S8x4096x2x64, .f32⟩
  | 14 => ⟨S8x4096x8x64, .f32⟩
  | 15 => ⟨S4096x32, .f32⟩
  | 16 => ⟨S1x4096x1x32, .f32⟩
  | 17 => ⟨S4096x32, .f32⟩
  | 18 => ⟨S1x4096x1x32, .f32⟩
  | 19 => ⟨S8x4096x8x32, .f32⟩
  | 20 => ⟨S8x4096x8x32, .f32⟩
  | 21 => ⟨S8x4096x8x32, .f32⟩
  | 22 => ⟨S8x4096x8x32, .f32⟩
  | 23 => ⟨S8x4096x8x32, .f32⟩
  | 24 => ⟨S8x4096x8x32, .f32⟩
  | 25 => ⟨S8x4096x8x32, .f32⟩
  | 26 => ⟨S8x4096x8x32, .f32⟩
  | 27 => ⟨S8x4096x8x32, .f32⟩
  | 28 => ⟨S8x4096x8x32, .f32⟩
  | 29 => ⟨S8x4096x8x32, .f32⟩
  | 30 => ⟨S8x4096x8x32, .f32⟩
  | 31 => ⟨S8x4096x8x64, .f32⟩
  | 32 => ⟨S8x4096x2x64, .f32⟩
  | 33 => ⟨S4096x32, .f32⟩
  | 34 => ⟨S1x4096x1x32, .f32⟩
  | 35 => ⟨S4096x32, .f32⟩
  | 36 => ⟨S1x4096x1x32, .f32⟩
  | 37 => ⟨S8x4096x2x32, .f32⟩
  | 38 => ⟨S8x4096x2x32, .f32⟩
  | 39 => ⟨S8x4096x2x32, .f32⟩
  | 40 => ⟨S8x4096x2x32, .f32⟩
  | 41 => ⟨S8x4096x2x32, .f32⟩
  | 42 => ⟨S8x4096x2x32, .f32⟩
  | 43 => ⟨S8x4096x2x32, .f32⟩
  | 44 => ⟨S8x4096x2x32, .f32⟩
  | 45 => ⟨S8x4096x2x32, .f32⟩
  | 46 => ⟨S8x4096x2x32, .f32⟩
  | 47 => ⟨S8x4096x2x32, .f32⟩
  | 48 => ⟨S8x4096x2x32, .f32⟩
  | 49 => ⟨S8x4096x2x64, .f32⟩
  | 50 => ⟨S8x4096x2x64, .f32⟩
  | 51 => ⟨S8x4096x8x64, .bf16⟩
  | 52 => ⟨S8x4096x2x64, .bf16⟩
  | 53 => ⟨S8x4096x2x64, .bf16⟩
  | 54 => ⟨S8x4096x8x64, .bf16⟩
  | 55 => ⟨S8x4096x2x64, .bf16⟩
  | 56 => ⟨S8x4096x2x64, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_6 : Ref sig .tc := ⟨.hbm, 74, rfl⟩
abbrev main_v62 : Ref sig .tc := ⟨.hbm, 75, rfl⟩
abbrev main_v63 : Ref sig .tc := ⟨.hbm, 76, rfl⟩
abbrev main_cst_7 : Ref sig .tc := ⟨.hbm, 77, rfl⟩
abbrev main_v64 : Ref sig .tc := ⟨.hbm, 78, rfl⟩
abbrev main_v65 : Ref sig .tc := ⟨.hbm, 79, rfl⟩
abbrev main_cst_8 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_9 : Ref sig .tc := ⟨.hbm, 109, rfl⟩
abbrev main_v94 : Ref sig .tc := ⟨.hbm, 110, rfl⟩
abbrev main_v95 : Ref sig .tc := ⟨.hbm, 111, rfl⟩
abbrev main_cst_10 : Ref sig .tc := ⟨.hbm, 112, rfl⟩
abbrev main_v96 : Ref sig .tc := ⟨.hbm, 113, rfl⟩
abbrev main_v97 : Ref sig .tc := ⟨.hbm, 114, rfl⟩
abbrev main_cst_11 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩

abbrev nD : Nat := 1
abbrev τ : Topo := Topo.v7x

variable {F : FTy → Type} [FloatOps F]
-- ==== Kernel.lean ====
abbrev S8x4096x8x64 : Shape := ⟨4, ![8, 4096, 8, 64]⟩
abbrev S8x4096x2x64 : Shape := ⟨4, ![8, 4096, 2, 64]⟩
abbrev S1x8 : Shape := ⟨2, ![1, 8]⟩
abbrev S1x512 : Shape := ⟨2, ![1, 512]⟩
abbrev S_ : Shape := ⟨0, ![]⟩
abbrev S8x4096x2x4x2x32 : Shape := ⟨6, ![8, 4096, 2, 4, 2, 32]⟩
abbrev S8x4096x4x2x2x32 : Shape := ⟨6, ![8, 4096, 4, 2, 2, 32]⟩
abbrev S8x4096x512 : Shape := ⟨3, ![8, 4096, 512]⟩
abbrev S8x4096x2x1x2x32 : Shape := ⟨6, ![8, 4096, 2, 1, 2, 32]⟩
abbrev S8x4096x1x2x2x32 : Shape := ⟨6, ![8, 4096, 1, 2, 2, 32]⟩
abbrev S8x4096x128 : Shape := ⟨3, ![8, 4096, 128]⟩
abbrev S8x16x256x2x64 : Shape := ⟨5, ![8, 16, 256, 2, 64]⟩
abbrev S8x16x2x64x256 : Shape := ⟨5, ![8, 16, 2, 64, 256]⟩
abbrev S8x16x2x16x256 : Shape := ⟨5, ![8, 16, 2, 16, 256]⟩
abbrev S8x16x2x80x256 : Shape := ⟨5, ![8, 16, 2, 80, 256]⟩
abbrev S8x16x160x256 : Shape := ⟨4, ![8, 16, 160, 256]⟩
abbrev S8x32x128x2x64 : Shape := ⟨5, ![8, 32, 128, 2, 64]⟩
abbrev S8x32x2x64x128 : Shape := ⟨5, ![8, 32, 2, 64, 128]⟩
abbrev S8x32x2x16x128 : Shape := ⟨5, ![8, 32, 2, 16, 128]⟩
abbrev S8x32x2x80x128 : Shape := ⟨5, ![8, 32, 2, 80, 128]⟩
abbrev S8x32x160x128 : Shape := ⟨4, ![8, 32, 160, 128]⟩
abbrev S512 : Shape := ⟨1, ![512]⟩
abbrev S512x1 : Shape := ⟨2, ![512, 1]⟩
abbrev S512x128 : Shape := ⟨2, ![512, 128]⟩
abbrev S8 : Shape := ⟨1, ![8]⟩
abbrev S8x128 : Shape := ⟨2, ![8, 128]⟩
abbrev S1024 : Shape := ⟨1, ![1024]⟩
abbrev S2x512 : Shape := ⟨2, ![2, 512]⟩
abbrev S128 : Shape := ⟨1, ![128]⟩
abbrev S128x1 : Shape := ⟨2, ![128, 1]⟩
abbrev S128x512 : Shape := ⟨2, ![128, 512]⟩
abbrev S1x128x512 : Shape := ⟨3, ![1, 128, 512]⟩
abbrev S3x128x512 : Shape := ⟨3, ![3, 128, 512]⟩
abbrev S8x4096x1024 : Shape := ⟨3, ![8, 4096, 1024]⟩
abbrev S1x512x512 : Shape := ⟨3, ![1, 512, 512]⟩
abbrev S1x4096x128 : Shape := ⟨3, ![1, 4096, 128]⟩
abbrev S1x16x160x256 : Shape := ⟨4, ![1, 16, 160, 256]⟩
abbrev S1x128x128 : Shape := ⟨3, ![1, 128, 128]⟩
abbrev S1x1x160x128 : Shape := ⟨4, ![1, 1, 160, 128]⟩
abbrev S1x512x1024 : Shape := ⟨3, ![1, 512, 1024]⟩
abbrev S2x4096x512 : Shape := ⟨3, ![2, 4096, 512]⟩
abbrev S4x1x512 : Shape := ⟨3, ![4, 1, 512]⟩
abbrev S2x384x512 : Shape := ⟨3, ![2, 384, 512]⟩
abbrev S128x128 : Shape := ⟨2, ![128, 128]⟩
abbrev S1x256x128 : Shape := ⟨3, ![1, 256, 128]⟩
abbrev S256x128 : Shape := ⟨2, ![256, 128]⟩
abbrev S256x512 : Shape := ⟨2, ![256, 512]⟩
abbrev S1x256x512 : Shape := ⟨3, ![1, 256, 512]⟩
abbrev S1x1x512 : Shape := ⟨3, ![1, 1, 512]⟩
abbrev S80x512 : Shape := ⟨2, ![80, 512]⟩
abbrev S384x128 : Shape := ⟨2, ![384, 128]⟩
abbrev S384x512 : Shape := ⟨2, ![384, 512]⟩
abbrev S1x1x80x256 : Shape := ⟨4, ![1, 1, 80, 256]⟩
abbrev S80x256 : Shape := ⟨2, ![80, 256]⟩
abbrev S1x384x512 : Shape := ⟨3, ![1, 384, 512]⟩
abbrev S1x1x80x128 : Shape := ⟨4, ![1, 1, 80, 128]⟩
abbrev S80x128 : Shape := ⟨2, ![80, 128]⟩
abbrev S80x384 : Shape := ⟨2, ![80, 384]⟩
abbrev S64x512 : Shape := ⟨2, ![64, 512]⟩
abbrev S64x128 : Shape := ⟨2, ![64, 128]⟩
abbrev S1x128 : Shape := ⟨2, ![1, 128]⟩

abbrev nBuf : Space → Nat
  | .hbm => 107
  | .vmem => 50
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8x4096x8x64, .f32⟩
  | .hbm, ⟨4, _⟩ => ⟨S8x4096x2x64, .f32⟩
  | .hbm, ⟨5, _⟩ => ⟨S8x4096x2x64, .f32⟩
  | .hbm, ⟨6, _⟩ => ⟨S1x8, .f32⟩
  | .hbm, ⟨7, _⟩ => ⟨S1x512, .f32⟩
  | .hbm, ⟨8, _⟩ => ⟨S1x512, .f32⟩
  | .hbm, ⟨9, _⟩ => ⟨S_, .f32⟩
  | .hbm, ⟨10, _⟩ => ⟨S8x4096x8x64, .f32⟩
  | .hbm, ⟨11, _⟩ => ⟨S8x4096x8x64, .f32⟩
  | .hbm, ⟨12, _⟩ => ⟨S8x4096x2x4x2x32, .f32⟩
  | .hbm, ⟨13, _⟩ => ⟨S8x4096x4x2x2x32, .f32⟩
  | .hbm, ⟨14, _⟩ => ⟨S8x4096x512, .f32⟩
  | .hbm, ⟨15, _⟩ => ⟨S8x4096x512, .bf16⟩
  | .hbm, ⟨16, _⟩ => ⟨S8x4096x2x1x2x32, .f32⟩
  | .hbm, ⟨17, _⟩ => ⟨S8x4096x1x2x2x32, .f32⟩
  | .hbm, ⟨18, _⟩ => ⟨S8x4096x128, .f32⟩
  | .hbm, ⟨19, _⟩ => ⟨S8x4096x128, .bf16⟩
  | .hbm, ⟨20, _⟩ => ⟨S_, .f32⟩
  | .hbm, ⟨21, _⟩ => ⟨S8x4096x8x64, .f32⟩
  | .hbm, ⟨22, _⟩ => ⟨S8x4096x8x64, .f32⟩
  | .hbm, ⟨23, _⟩ => ⟨S8x4096x2x4x2x32, .f32⟩
  | .hbm, ⟨24, _⟩ => ⟨S8x4096x4x2x2x32, .f32⟩
  | .hbm, ⟨25, _⟩ => ⟨S8x4096x512, .f32⟩
  | .hbm, ⟨26, _⟩ => ⟨S8x4096x512, .bf16⟩
  | .hbm, ⟨27, _⟩ => ⟨S8x4096x2x1x2x32, .f32⟩
  | .hbm, ⟨28, _⟩ => ⟨S8x4096x1x2x2x32, .f32⟩
  | .hbm, ⟨29, _⟩ => ⟨S8x4096x128, .f32⟩
  | .hbm, ⟨30, _⟩ => ⟨S8x4096x128, .bf16⟩
  | .hbm, ⟨31, _⟩ => ⟨S8x16x256x2x64, .f32⟩
  | .hbm, ⟨32, _⟩ => ⟨S8x16x2x64x256, .f32⟩
  | .hbm, ⟨33, _⟩ => ⟨S_, .f32⟩
  | .hbm, ⟨34, _⟩ => ⟨S8x16x2x16x256, .f32⟩
  | .hbm, ⟨35, _⟩ => ⟨S8x16x2x80x256, .f32⟩
  | .hbm, ⟨36, _⟩ => ⟨S8x16x160x256, .f32⟩
  | .hbm, ⟨37, _⟩ => ⟨S8x16x160x256, .bf16⟩
  | .hbm, ⟨38, _⟩ => ⟨S8x32x128x2x64, .f32⟩
  | .hbm, ⟨39, _⟩ => ⟨S8x32x2x64x128, .f32⟩
  | .hbm, ⟨40, _⟩ => ⟨S_, .f32⟩
  | .hbm, ⟨41, _⟩ => ⟨S8x32x2x16x128, .f32⟩
  | .hbm, ⟨42, _⟩ => ⟨S8x32x2x80x128, .f32⟩
  | .hbm, ⟨43, _⟩ => ⟨S8x32x160x128, .f32⟩
  | .hbm, ⟨44, _⟩ => ⟨S8x32x160x128, .bf16⟩
  | .hbm, ⟨45, _⟩ => ⟨S512, .f32⟩
  | .hbm, ⟨46, _⟩ => ⟨S512x1, .f32⟩
  | .hbm, ⟨47, _⟩ => ⟨S512x128, .f32⟩
  | .hbm, ⟨48, _⟩ => ⟨S512, .f32⟩
  | .hbm, ⟨49, _⟩ => ⟨S512x1, .f32⟩
  | .hbm, ⟨50, _⟩ => ⟨S512x128, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S8x128, .f32⟩
  | .hbm, ⟨56, _⟩ => ⟨S1024, .f32⟩
  | .hbm, ⟨57, _⟩ => ⟨S2x512, .f32⟩
  | .hbm, ⟨58, _⟩ => ⟨S128, .i32⟩
  | .hbm, ⟨59, _⟩ => ⟨S128x1, .i32⟩
  | .hbm, ⟨60, _⟩ => ⟨S512, .i32⟩
  | .hbm, ⟨61, _⟩ => ⟨S1x512, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S1x512, .i32⟩
  | .hbm, ⟨69, _⟩ => ⟨S1x512, .i32⟩
  | .hbm, ⟨70, _⟩ => ⟨S_, .i32⟩
  | .hbm, ⟨71, _⟩ => ⟨S1x512, .i32⟩
  | .hbm, ⟨72, _⟩ => ⟨S1x512, .i1⟩
  | .hbm, ⟨73, _⟩ => ⟨S_, .i32⟩
  | .hbm, ⟨74, _⟩ => ⟨S1x512, .i32⟩
  | .hbm, ⟨75, _⟩ => ⟨S1x512, .i1⟩
  | .hbm, ⟨76, _⟩ => ⟨S_, .i32⟩
  | .hbm, ⟨77, _⟩ => ⟨S_, .i1⟩
  | .hbm, ⟨78, _⟩ => ⟨S1x512, .i1⟩
  | .hbm, ⟨79, _⟩ => ⟨S1x512, .i1⟩
  | .hbm, ⟨80, _⟩ => ⟨S1x512, .i1⟩
  | .hbm, ⟨81, _⟩ => ⟨S1x512, .i32⟩
  | .hbm, ⟨82, _⟩ => ⟨S1x512, .i32⟩
  | .hbm, ⟨83, _⟩ => ⟨S1x512, .i32⟩
  | .hbm, ⟨84, _⟩ => ⟨S128x512, .i32⟩
  | .hbm, ⟨85, _⟩ => ⟨S128x512, .i32⟩
  | .hbm, ⟨86, _⟩ => ⟨S128x512, .i1⟩
  | .hbm, ⟨87, _⟩ => ⟨S_, .f32⟩
  | .hbm, ⟨88, _⟩ => ⟨S_, .f32⟩
  | .hbm, ⟨89, _⟩ => ⟨S128x512, .f32⟩
  | .hbm, ⟨90, _⟩ => ⟨S128x512, .f32⟩
  | .hbm, ⟨91, _⟩ => ⟨S128x512, .f32⟩
  | .hbm, ⟨92, _⟩ => ⟨S128x512, .i32⟩
  | .hbm, ⟨93, _⟩ => ⟨S128x512, .i32⟩
  | .hbm, ⟨94, _⟩ => ⟨S128x512, .i1⟩
  | .hbm, ⟨95, _⟩ => ⟨S_, .f32⟩
  | .hbm, ⟨96, _⟩ => ⟨S_, .f32⟩
  | .hbm, ⟨97, _⟩ => ⟨S128x512, .f32⟩
  | .hbm, ⟨98, _⟩ => ⟨S128x512, .f32⟩
  | .hbm, ⟨99, _⟩ => ⟨S128x512, .f32⟩
  | .hbm, ⟨100, _⟩ => ⟨S_, .f32⟩
  | .hbm, ⟨101, _⟩ => ⟨S128x512, .f32⟩
  | .hbm, ⟨102, _⟩ => ⟨S1x128x512, .f32⟩
  | .hbm, ⟨103, _⟩ => ⟨S1x128x512, .f32⟩
  | .hbm, ⟨104, _⟩ => ⟨S1x128x512, .f32⟩
  | .hbm, ⟨105, _⟩ => ⟨S3x128x512, .f32⟩
  | .hbm, ⟨106, _⟩ => ⟨S8x4096x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x16x160x256, .bf16⟩
  | .local _ .vmem, ⟨9, _⟩ => ⟨S1x16x160x256, .bf16⟩
  | .local _ .vmem, ⟨10, _⟩ => ⟨S512x128, .f32⟩
  | .local _ .vmem, ⟨11, _⟩ => ⟨S1x512x512, .bf16⟩
  | .local _ .vmem, ⟨12, _⟩ => ⟨S1x512x512, .bf16⟩
  | .local _ .vmem, ⟨13, _⟩ => ⟨S1x128x128, .bf16⟩
  | .local _ .vmem, ⟨14, _⟩ => ⟨S1x128x128, .bf16⟩
  | .local _ .vmem, ⟨15, _⟩ => ⟨S1x128x128, .bf16⟩
  | .local _ .vmem, ⟨16, _⟩ => ⟨S1x128x128, .bf16⟩
  | .local _ .vmem, ⟨17, _⟩ => ⟨S1x128x128, .bf16⟩
  | .local _ .vmem, ⟨18, _⟩ => ⟨S1x128x128, .bf16⟩
  | .local _ .vmem, ⟨19, _⟩ => ⟨S1x128x128, .bf16⟩
  | .local _ .vmem, ⟨20, _⟩ => ⟨S1x128x128, .bf16⟩
  | .local _ .vmem, ⟨21, _⟩ => ⟨S1x128x128, .bf16⟩
  | .local _ .vmem, ⟨22, _⟩ => ⟨S1x128x128, .bf16⟩
  | .local _ .vmem, ⟨23, _⟩ => ⟨S1x128x128, .bf16⟩
  | .local _ .vmem, ⟨24, _⟩ => ⟨S1x128x128, .bf16⟩
  | .local _ .vmem, ⟨25, _⟩ => ⟨S1x1x160x128, .bf16⟩
  | .local _ .vmem, ⟨26, _⟩ => ⟨S1x1x160x128, .bf16⟩
  | .local _ .vmem, ⟨27, _⟩ => ⟨S1x1x160x128, .bf16⟩
  | .local _ .vmem, ⟨28, _⟩ => ⟨S1x1x160x128, .bf16⟩
  | .local _ .vmem, ⟨29, _⟩ => ⟨S1x1x160x128, .bf16⟩
  | .local _ .vmem, ⟨30, _⟩ => ⟨S1x1x160x128, .bf16⟩
  | .local _ .vmem, ⟨31, _⟩ => ⟨S1x1x160x128, .bf16⟩
  | .local _ .vmem, ⟨32, _⟩ => ⟨S1x1x160x128, .bf16⟩
  | .local _ .vmem, ⟨33, _⟩ => ⟨S1x1x160x128, .bf16⟩
  | .local _ .vmem, ⟨34, _⟩ => ⟨S1x1x160x128, .bf16⟩
  | .local _ .vmem, ⟨35, _⟩ => ⟨S1x1x160x128, .bf16⟩
  | .local _ .vmem, ⟨36, _⟩ => ⟨S1x1x160x128, .bf16⟩
  | .local _ .vmem, ⟨37, _⟩ => ⟨S1x128x512, .f32⟩
  | .local _ .vmem, ⟨38, _⟩ => ⟨S1x128x512, .f32⟩
  | .local _ .vmem, ⟨39, _⟩ => ⟨S1x128x512, .f32⟩
  | .local _ .vmem, ⟨40, _⟩ => ⟨S1x128x512, .f32⟩
  | .local _ .vmem, ⟨41, _⟩ => ⟨S1x128x512, .f32⟩
  | .local _ .vmem, ⟨42, _⟩ => ⟨S1x128x512, .f32⟩
  | .local _ .vmem, ⟨43, _⟩ => ⟨S2x512, .f32⟩
  | .local _ .vmem, ⟨44, _⟩ => ⟨S512x128, .f32⟩
  | .local _ .vmem, ⟨45, _⟩ => ⟨S1x512x1024, .bf16⟩
  | .local _ .vmem, ⟨46, _⟩ => ⟨S1x512x1024, .bf16⟩
  | .local _ .vmem, ⟨47, _⟩ => ⟨S2x4096x512, .f32⟩
  | .local _ .vmem, ⟨48, _⟩ => ⟨S4x1x512, .f32⟩
  | .local _ .vmem, ⟨49, _⟩ => ⟨S2x384x512, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c : Ref sig .tc := ⟨.hbm, 62, rfl⟩
abbrev main_call0_v0 : Ref sig .tc := ⟨.hbm, 63, rfl⟩
abbrev main_call0_c : Ref sig .tc := ⟨.hbm, 64, rfl⟩
abbrev main_call0_v1 : Ref sig .tc := ⟨.hbm, 65, rfl⟩
abbrev main_call0_c_0 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_c_1 : Ref sig .tc := ⟨.hbm, 70, rfl⟩
abbrev main_call0_v5 : Ref sig .tc := ⟨.hbm, 71, rfl⟩
abbrev main_call0_v6 : Ref sig .tc := ⟨.hbm, 72, rfl⟩
abbrev main_call0_c_2 : Ref sig .tc := ⟨.hbm, 73, rfl⟩
abbrev main_call0_v7 : Ref sig .tc := ⟨.hbm, 74, rfl⟩
abbrev main_call0_v8 : Ref sig .tc := ⟨.hbm, 75, rfl⟩
abbrev main_call0_c_3 : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_v12 : Ref sig .tc := ⟨.hbm, 80, rfl⟩
abbrev main_call0_v13 : Ref sig .tc := ⟨.hbm, 81, rfl⟩
abbrev main_call0_v14 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_4 : Ref sig .tc := ⟨.hbm, 87, rfl⟩
abbrev main_cst_5 : Ref sig .tc := ⟨.hbm, 88, rfl⟩
abbrev main_call1_v0 : Ref sig .tc := ⟨.hbm, 89, rfl⟩
abbrev main_call1_v1 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_6 : Ref sig .tc := ⟨.hbm, 95, rfl⟩
abbrev main_cst_7 : Ref sig .tc := ⟨.hbm, 96, rfl⟩
abbrev main_call2_v0 : Ref sig .tc := ⟨.hbm, 97, rfl⟩
abbrev main_call2_v1 : Ref sig .tc := ⟨.hbm, 98, rfl⟩
abbrev main_v56 : Ref sig .tc := ⟨.hbm, 99, rfl⟩
abbrev main_cst_8 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_stg22_0 : Ref sig .tc := ⟨.vmem, 42, rfl⟩
abbrev cc0_stg23_0 : Ref sig .tc := ⟨.vmem, 43, rfl⟩
abbrev cc0_stg24_0 : Ref sig .tc := ⟨.vmem, 44, rfl⟩
abbrev cc0_stg25_0 : Ref sig .tc := ⟨.vmem, 45, rfl⟩
abbrev cc0_stg25_1 : Ref sig .tc := ⟨.vmem, 46, rfl⟩
abbrev cc0_scratch0 : Ref sig .tc := ⟨.vmem, 47, rfl⟩
abbrev cc0_scratch1 : Ref sig .tc := ⟨.vmem, 48, rfl⟩
abbrev cc0_scratch2 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem22_0 : DmaSem sig := 42
abbrev cc0_sem23_0 : DmaSem sig := 43
abbrev cc0_sem24_0 : DmaSem sig := 44
abbrev cc0_sem25_0 : DmaSem sig := 45
abbrev cc0_sem25_1 : DmaSem sig := 46

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_2953 : BitVec 32 := 0#32
  let c14_i32 : BitVec 32 := 14#32
  let v5030 : BitVec 32 := Scalar.addi c0_i32_2953 c14_i32
  let c1_i32_2954 : BitVec 32 := 1#32
  ⟨c0_i32_2953, v5030, c1_i32_2954⟩
def k0_mult1 (k0_t1 : Fin k0_t1_loop.trips) : BitVec 32 :=
  let c0_i32_2953 : BitVec 32 := 0#32
  let c1_i32_2954 : BitVec 32 := 1#32
  let arg31 : BitVec 32 := Scf.iv c0_i32_2953 c1_i32_2954 k0_t1
  let c256_i32_2966 : BitVec 32 := 256#32
  let v5040 : BitVec 32 := Scalar.muli arg31 c256_i32_2966
  v5040
def k0_off1 (k0_t1 : Fin k0_t1_loop.trips) : Fin 3 → Nat :=
  let c0_2967 : Index := 0#32
  let c0_i32_2953 : BitVec 32 := 0#32
  let c1_i32_2954 : BitVec 32 := 1#32
  let arg31 : BitVec 32 := Scf.iv c0_i32_2953 c1_i32_2954 k0_t1
  let c256_i32_2966 : BitVec 32 := 256#32
  let v5040 : BitVec 32 := Scalar.muli arg31 c256_i32_2966
  let v5041 : BitVec 32 := v5040
  let v5042 : Index := Scalar.indexCast v5041
  let c0_2968 : Index := 0#32
  ![0, v5042.toNat, 0]
def k0_off2 (k0_t1 : Fin k0_t1_loop.trips) : Fin 3 → Nat :=
  let c0_2970 : Index := 0#32
  let c0_i32_2953 : BitVec 32 := 0#32
  let c1_i32_2954 : BitVec 32 := 1#32
  let arg31 : BitVec 32 := Scf.iv c0_i32_2953 c1_i32_2954 k0_t1
  let c256_i32_2966 : BitVec 32 := 256#32
  let v5040 : BitVec 32 := Scalar.muli arg31 c256_i32_2966
  let v5041 : BitVec 32 := v5040
  let v5046 : Index := Scalar.indexCast v5041
  let c0_2971 : Index := 0#32
  ![0, v5046.toNat, 0]
@[reducible] def k0_t2_loop : Scf.Loop 32 :=
  let c14_i32_2959 : BitVec 32 := 14#32
  let c2_i32_2960 : BitVec 32 := 2#32
  let v5035 : BitVec 32 := Scalar.addi c14_i32_2959 c2_i32_2960
  let c1_i32_2961 : BitVec 32 := 1#32
  ⟨c14_i32_2959, v5035, c1_i32_2961⟩
def k0_mult2 (k0_t2 : Fin k0_t2_loop.trips) : BitVec 32 :=
  let c14_i32_2959 : BitVec 32 := 14#32
  let c1_i32_2961 : BitVec 32 := 1#32
  let arg31 : BitVec 32 := Scf.iv c14_i32_2959 c1_i32_2961 k0_t2
  let c256_i32_2966 : BitVec 32 := 256#32
  let v5040 : BitVec 32 := Scalar.muli arg31 c256_i32_2966
  v5040
def k0_off3 (k0_t2 : Fin k0_t2_loop.trips) : Fin 3 → Nat :=
  let c0_2967 : Index := 0#32
  let c14_i32_2959 : BitVec 32 := 14#32
  let c1_i32_2961 : BitVec 32 := 1#32
  let arg31 : BitVec 32 := Scf.iv c14_i32_2959 c1_i32_2961 k0_t2
  let c256_i32_2966 : BitVec 32 := 256#32
  let v5040 : BitVec 32 := Scalar.muli arg31 c256_i32_2966
  let v5041 : BitVec 32 := v5040
  let v5042 : Index := Scalar.indexCast v5041
  let c0_2968 : Index := 0#32
  ![0, v5042.toNat, 0]
def k0_off4 (k0_t2 : Fin k0_t2_loop.trips) : Fin 3 → Nat :=
  let c0_2970 : Index := 0#32
  let c14_i32_2959 : BitVec 32 := 14#32
  let c1_i32_2961 : BitVec 32 := 1#32
  let arg31 : BitVec 32 := Scf.iv c14_i32_2959 c1_i32_2961 k0_t2
  let c256_i32_2966 : BitVec 32 := 256#32
  let v5040 : BitVec 32 := Scalar.muli arg31 c256_i32_2966
  let v5041 : BitVec 32 := v5040
  let v5046 : Index := Scalar.indexCast v5041
  let c0_2971 : Index := 0#32
  ![0, v5046.toNat, 0]
def k0_mult3 : BitVec 32 :=
  let c0_i32_152 : BitVec 32 := 0#32
  c0_i32_152
def k0_mult4 : BitVec 32 :=
  let c0_i32_159 : BitVec 32 := 0#32
  c0_i32_159
def k0_mult5 : BitVec 32 :=
  let c256_i32 : BitVec 32 := 256#32
  c256_i32
def k0_mult6 : BitVec 32 :=
  let c256_i32_173 : BitVec 32 := 256#32
  c256_i32_173
def k0_mult7 : BitVec 32 :=
  let c512_i32 : BitVec 32 := 512#32
  c512_i32
def k0_mult8 : BitVec 32 :=
  let c512_i32_187 : BitVec 32 := 512#32
  c512_i32_187
def k0_mult9 : BitVec 32 :=
  let c768_i32 : BitVec 32 := 768#32
  c768_i32
def k0_mult10 : BitVec 32 :=
  let c768_i32_200 : BitVec 32 := 768#32
  c768_i32_200
def k0_mult11 : BitVec 32 :=
  let c1024_i32 : BitVec 32 := 1024#32
  c1024_i32
def k0_mult12 : BitVec 32 :=
  let c1024_i32_213 : BitVec 32 := 1024#32
  c1024_i32_213
def k0_mult13 : BitVec 32 :=
  let c1280_i32 : BitVec 32 := 1280#32
  c1280_i32
def k0_mult14 : BitVec 32 :=
  let c1280_i32_226 : BitVec 32 := 1280#32
  c1280_i32_226
def k0_mult15 : BitVec 32 :=
  let c1536_i32 : BitVec 32 := 1536#32
  c1536_i32
def k0_mult16 : BitVec 32 :=
  let c1536_i32_239 : BitVec 32 := 1536#32
  c1536_i32_239
def k0_mult17 : BitVec 32 :=
  let c1792_i32 : BitVec 32 := 1792#32
  c1792_i32
def k0_mult18 : BitVec 32 :=
  let c1792_i32_252 : BitVec 32 := 1792#32
  c1792_i32_252
def k0_mult19 : BitVec 32 :=
  let c2048_i32 : BitVec 32 := 2048#32
  c2048_i32
def k0_mult20 : BitVec 32 :=
  let c2048_i32_265 : BitVec 32 := 2048#32
  c2048_i32_265
def k0_mult21 : BitVec 32 :=
  let c2304_i32 : BitVec 32 := 2304#32
  c2304_i32
def k0_mult22 : BitVec 32 :=
  let c2304_i32_278 : BitVec 32 := 2304#32
  c2304_i32_278
def k0_mult23 : BitVec 32 :=
  let c2560_i32 : BitVec 32 := 2560#32
  c2560_i32
def k0_mult24 : BitVec 32 :=
  let c2560_i32_291 : BitVec 32 := 2560#32
  c2560_i32_291
def k0_mult25 : BitVec 32 :=
  let c2816_i32 : BitVec 32 := 2816#32
  c2816_i32
def k0_mult26 : BitVec 32 :=
  let c2816_i32_304 : BitVec 32 := 2816#32
  c2816_i32_304
def k0_mult27 : BitVec 32 :=
  let c3072_i32 : BitVec 32 := 3072#32
  c3072_i32
def k0_mult28 : BitVec 32 :=
  let c3072_i32_335 : BitVec 32 := 3072#32
  c3072_i32_335
def k0_mult29 : BitVec 32 :=
  let c3328_i32 : BitVec 32 := 3328#32
  c3328_i32
def k0_mult30 : BitVec 32 :=
  let c3328_i32_351 : BitVec 32 := 3328#32
  c3328_i32_351
def k0_mult31 : BitVec 32 :=
  let c3584_i32 : BitVec 32 := 3584#32
  c3584_i32
def k0_mult32 : BitVec 32 :=
  let c3584_i32_364 : BitVec 32 := 3584#32
  c3584_i32_364
def k0_mult33 : BitVec 32 :=
  let c3840_i32 : BitVec 32 := 3840#32
  c3840_i32
def k0_mult34 : BitVec 32 :=
  let c3840_i32_377 : BitVec 32 := 3840#32
  c3840_i32_377
def k0_mult35 : BitVec 32 :=
  let c0_i32_425 : BitVec 32 := 0#32
  c0_i32_425
def k0_mult36 : BitVec 32 :=
  let c0_i32_432 : BitVec 32 := 0#32
  c0_i32_432
def k0_mult37 : BitVec 32 :=
  let c256_i32_439 : BitVec 32 := 256#32
  c256_i32_439
def k0_mult38 : BitVec 32 :=
  let c256_i32_446 : BitVec 32 := 256#32
  c256_i32_446
def k0_mult39 : BitVec 32 :=
  let c512_i32_454 : BitVec 32 := 512#32
  c512_i32_454
def k0_mult40 : BitVec 32 :=
  let c512_i32_461 : BitVec 32 := 512#32
  c512_i32_461
def k0_mult41 : BitVec 32 :=
  let c768_i32_469 : BitVec 32 := 768#32
  c768_i32_469
def k0_mult42 : BitVec 32 :=
  let c768_i32_476 : BitVec 32 := 768#32
  c768_i32_476
def k0_mult43 : BitVec 32 :=
  let c1024_i32_484 : BitVec 32 := 1024#32
  c1024_i32_484
def k0_mult44 : BitVec 32 :=
  let c1024_i32_491 : BitVec 32 := 1024#32
  c1024_i32_491
def k0_mult45 : BitVec 32 :=
  let c1280_i32_499 : BitVec 32 := 1280#32
  c1280_i32_499
def k0_mult46 : BitVec 32 :=
  let c1280_i32_506 : BitVec 32 := 1280#32
  c1280_i32_506
def k0_mult47 : BitVec 32 :=
  let c1536_i32_514 : BitVec 32 := 1536#32
  c1536_i32_514
def k0_mult48 : BitVec 32 :=
  let c1536_i32_521 : BitVec 32 := 1536#32
  c1536_i32_521
def k0_mult49 : BitVec 32 :=
  let c1792_i32_529 : BitVec 32 := 1792#32
  c1792_i32_529
def k0_mult50 : BitVec 32 :=
  let c1792_i32_536 : BitVec 32 := 1792#32
  c1792_i32_536
def k0_mult51 : BitVec 32 :=
  let c2048_i32_544 : BitVec 32 := 2048#32
  c2048_i32_544
def k0_mult52 : BitVec 32 :=
  let c2048_i32_551 : BitVec 32 := 2048#32
  c2048_i32_551
def k0_mult53 : BitVec 32 :=
  let c2304_i32_559 : BitVec 32 := 2304#32
  c2304_i32_559
def k0_mult54 : BitVec 32 :=
  let c2304_i32_566 : BitVec 32 := 2304#32
  c2304_i32_566
def k0_mult55 : BitVec 32 :=
  let c2560_i32_574 : BitVec 32 := 2560#32
  c2560_i32_574
def k0_mult56 : BitVec 32 :=
  let c2560_i32_581 : BitVec 32 := 2560#32
  c2560_i32_581
def k0_mult57 : BitVec 32 :=
  let c2816_i32_589 : BitVec 32 := 2816#32
  c2816_i32_589
def k0_mult58 : BitVec 32 :=
  let c2816_i32_596 : BitVec 32 := 2816#32
  c2816_i32_596
def k0_mult59 : BitVec 32 :=
  let c3072_i32_604 : BitVec 32 := 3072#32
  c3072_i32_604
def k0_mult60 : BitVec 32 :=
  let c3072_i32_611 : BitVec 32 := 3072#32
  c3072_i32_611
def k0_mult61 : BitVec 32 :=
  let c3328_i32_619 : BitVec 32 := 3328#32
  c3328_i32_619
def k0_mult62 : BitVec 32 :=
  let c3328_i32_629 : BitVec 32 := 3328#32
  c3328_i32_629
def k0_mult63 : BitVec 32 :=
  let c3584_i32_655 : BitVec 32 := 3584#32
  c3584_i32_655
def k0_mult64 : BitVec 32 :=
  let c3584_i32_662 : BitVec 32 := 3584#32
  c3584_i32_662
def k0_mult65 : BitVec 32 :=
  let c3840_i32_670 : BitVec 32 := 3840#32
  c3840_i32_670
def k0_mult66 : BitVec 32 :=
  let c3840_i32_677 : BitVec 32 := 3840#32
  c3840_i32_677
def k0_mult67 : BitVec 32 :=
  let c0_i32_861 : BitVec 32 := 0#32
  c0_i32_861
def k0_mult68 : BitVec 32 :=
  let c0_i32_868 : BitVec 32 := 0#32
  c0_i32_868
def k0_mult69 : BitVec 32 :=
  let c256_i32_876 : BitVec 32 := 256#32
  c256_i32_876
def k0_mult70 : BitVec 32 :=
  let c256_i32_883 : BitVec 32 := 256#32
  c256_i32_883
def k0_mult71 : BitVec 32 :=
  let c512_i32_891 : BitVec 32 := 512#32
  c512_i32_891
def k0_mult72 : BitVec 32 :=
  let c512_i32_898 : BitVec 32 := 512#32
  c512_i32_898
def k0_mult73 : BitVec 32 :=
  let c768_i32_906 : BitVec 32 := 768#32
  c768_i32_906
def k0_mult74 : BitVec 32 :=
  let c768_i32_913 : BitVec 32 := 768#32
  c768_i32_913
def k0_mult75 : BitVec 32 :=
  let c1024_i32_921 : BitVec 32 := 1024#32
  c1024_i32_921
def k0_mult76 : BitVec 32 :=
  let c1024_i32_928 : BitVec 32 := 1024#32
  c1024_i32_928
def k0_mult77 : BitVec 32 :=
  let c1280_i32_936 : BitVec 32 := 1280#32
  c1280_i32_936
def k0_mult78 : BitVec 32 :=
  let c1280_i32_943 : BitVec 32 := 1280#32
  c1280_i32_943
def k0_mult79 : BitVec 32 :=
  let c1536_i32_951 : BitVec 32 := 1536#32
  c1536_i32_951
def k0_mult80 : BitVec 32 :=
  let c1536_i32_958 : BitVec 32 := 1536#32
  c1536_i32_958
def k0_mult81 : BitVec 32 :=
  let c1792_i32_966 : BitVec 32 := 1792#32
  c1792_i32_966
def k0_mult82 : BitVec 32 :=
  let c1792_i32_973 : BitVec 32 := 1792#32
  c1792_i32_973
def k0_mult83 : BitVec 32 :=
  let c2048_i32_981 : BitVec 32 := 2048#32
  c2048_i32_981
def k0_mult84 : BitVec 32 :=
  let c2048_i32_988 : BitVec 32 := 2048#32
  c2048_i32_988
def k0_mult85 : BitVec 32 :=
  let c2304_i32_996 : BitVec 32 := 2304#32
  c2304_i32_996
def k0_mult86 : BitVec 32 :=
  let c2304_i32_1003 : BitVec 32 := 2304#32
  c2304_i32_1003
def k0_mult87 : BitVec 32 :=
  let c2560_i32_1011 : BitVec 32 := 2560#32
  c2560_i32_1011
def k0_mult88 : BitVec 32 :=
  let c2560_i32_1018 : BitVec 32 := 2560#32
  c2560_i32_1018
def k0_mult89 : BitVec 32 :=
  let c2816_i32_1026 : BitVec 32 := 2816#32
  c2816_i32_1026
def k0_mult90 : BitVec 32 :=
  let c2816_i32_1033 : BitVec 32 := 2816#32
  c2816_i32_1033
def k0_mult91 : BitVec 32 :=
  let c3072_i32_1059 : BitVec 32 := 3072#32
  c3072_i32_1059
def k0_mult92 : BitVec 32 :=
  let c3072_i32_1066 : BitVec 32 := 3072#32
  c3072_i32_1066
def k0_mult93 : BitVec 32 :=
  let c3328_i32_1074 : BitVec 32 := 3328#32
  c3328_i32_1074
def k0_mult94 : BitVec 32 :=
  let c3328_i32_1084 : BitVec 32 := 3328#32
  c3328_i32_1084
def k0_mult95 : BitVec 32 :=
  let c3584_i32_1092 : BitVec 32 := 3584#32
  c3584_i32_1092
def k0_mult96 : BitVec 32 :=
  let c3584_i32_1099 : BitVec 32 := 3584#32
  c3584_i32_1099
def k0_mult97 : BitVec 32 :=
  let c3840_i32_1107 : BitVec 32 := 3840#32
  c3840_i32_1107
def k0_mult98 : BitVec 32 :=
  let c3840_i32_1114 : BitVec 32 := 3840#32
  c3840_i32_1114
def k0_mult99 : BitVec 32 :=
  let c0_i32_1163 : BitVec 32 := 0#32
  c0_i32_1163
def k0_mult100 : BitVec 32 :=
  let c0_i32_1170 : BitVec 32 := 0#32
  c0_i32_1170
def k0_mult101 : BitVec 32 :=
  let c256_i32_1178 : BitVec 32 := 256#32
  c256_i32_1178
def k0_mult102 : BitVec 32 :=
  let c256_i32_1185 : BitVec 32 := 256#32
  c256_i32_1185
def k0_mult103 : BitVec 32 :=
  let c512_i32_1193 : BitVec 32 := 512#32
  c512_i32_1193
def k0_mult104 : BitVec 32 :=
  let c512_i32_1200 : BitVec 32 := 512#32
  c512_i32_1200
def k0_mult105 : BitVec 32 :=
  let c768_i32_1208 : BitVec 32 := 768#32
  c768_i32_1208
def k0_mult106 : BitVec 32 :=
  let c768_i32_1215 : BitVec 32 := 768#32
  c768_i32_1215
def k0_mult107 : BitVec 32 :=
  let c1024_i32_1223 : BitVec 32 := 1024#32
  c1024_i32_1223
def k0_mult108 : BitVec 32 :=
  let c1024_i32_1230 : BitVec 32 := 1024#32
  c1024_i32_1230
def k0_mult109 : BitVec 32 :=
  let c1280_i32_1238 : BitVec 32 := 1280#32
  c1280_i32_1238
def k0_mult110 : BitVec 32 :=
  let c1280_i32_1245 : BitVec 32 := 1280#32
  c1280_i32_1245
def k0_mult111 : BitVec 32 :=
  let c1536_i32_1253 : BitVec 32 := 1536#32
  c1536_i32_1253
def k0_mult112 : BitVec 32 :=
  let c1536_i32_1260 : BitVec 32 := 1536#32
  c1536_i32_1260
def k0_mult113 : BitVec 32 :=
  let c1792_i32_1268 : BitVec 32 := 1792#32
  c1792_i32_1268
def k0_mult114 : BitVec 32 :=
  let c1792_i32_1275 : BitVec 32 := 1792#32
  c1792_i32_1275
def k0_mult115 : BitVec 32 :=
  let c2048_i32_1283 : BitVec 32 := 2048#32
  c2048_i32_1283
def k0_mult116 : BitVec 32 :=
  let c2048_i32_1290 : BitVec 32 := 2048#32
  c2048_i32_1290
def k0_mult117 : BitVec 32 :=
  let c2304_i32_1298 : BitVec 32 := 2304#32
  c2304_i32_1298
def k0_mult118 : BitVec 32 :=
  let c2304_i32_1305 : BitVec 32 := 2304#32
  c2304_i32_1305
def k0_mult119 : BitVec 32 :=
  let c2560_i32_1313 : BitVec 32 := 2560#32
  c2560_i32_1313
def k0_mult120 : BitVec 32 :=
  let c2560_i32_1320 : BitVec 32 := 2560#32
  c2560_i32_1320
def k0_mult121 : BitVec 32 :=
  let c2816_i32_1328 : BitVec 32 := 2816#32
  c2816_i32_1328
def k0_mult122 : BitVec 32 :=
  let c2816_i32_1335 : BitVec 32 := 2816#32
  c2816_i32_1335
def k0_mult123 : BitVec 32 :=
  let c3072_i32_1343 : BitVec 32 := 3072#32
  c3072_i32_1343
def k0_mult124 : BitVec 32 :=
  let c3072_i32_1350 : BitVec 32 := 3072#32
  c3072_i32_1350
def k0_mult125 : BitVec 32 :=
  let c3328_i32_1358 : BitVec 32 := 3328#32
  c3328_i32_1358
def k0_mult126 : BitVec 32 :=
  let c3328_i32_1368 : BitVec 32 := 3328#32
  c3328_i32_1368
def k0_mult127 : BitVec 32 :=
  let c3584_i32_1394 : BitVec 32 := 3584#32
  c3584_i32_1394
def k0_mult128 : BitVec 32 :=
  let c3584_i32_1401 : BitVec 32 := 3584#32
  c3584_i32_1401
def k0_mult129 : BitVec 32 :=
  let c3840_i32_1409 : BitVec 32 := 3840#32
  c3840_i32_1409
def k0_mult130 : BitVec 32 :=
  let c3840_i32_1416 : BitVec 32 := 3840#32
  c3840_i32_1416
def k0_mult131 : BitVec 32 :=
  let c0_i32_1601 : BitVec 32 := 0#32
  c0_i32_1601
def k0_mult132 : BitVec 32 :=
  let c0_i32_1608 : BitVec 32 := 0#32
  c0_i32_1608
def k0_mult133 : BitVec 32 :=
  let c256_i32_1616 : BitVec 32 := 256#32
  c256_i32_1616
def k0_mult134 : BitVec 32 :=
  let c256_i32_1623 : BitVec 32 := 256#32
  c256_i32_1623
def k0_mult135 : BitVec 32 :=
  let c512_i32_1631 : BitVec 32 := 512#32
  c512_i32_1631
def k0_mult136 : BitVec 32 :=
  let c512_i32_1638 : BitVec 32 := 512#32
  c512_i32_1638
def k0_mult137 : BitVec 32 :=
  let c768_i32_1646 : BitVec 32 := 768#32
  c768_i32_1646
def k0_mult138 : BitVec 32 :=
  let c768_i32_1653 : BitVec 32 := 768#32
  c768_i32_1653
def k0_mult139 : BitVec 32 :=
  let c1024_i32_1661 : BitVec 32 := 1024#32
  c1024_i32_1661
def k0_mult140 : BitVec 32 :=
  let c1024_i32_1668 : BitVec 32 := 1024#32
  c1024_i32_1668
def k0_mult141 : BitVec 32 :=
  let c1280_i32_1676 : BitVec 32 := 1280#32
  c1280_i32_1676
def k0_mult142 : BitVec 32 :=
  let c1280_i32_1683 : BitVec 32 := 1280#32
  c1280_i32_1683
def k0_mult143 : BitVec 32 :=
  let c1536_i32_1691 : BitVec 32 := 1536#32
  c1536_i32_1691
def k0_mult144 : BitVec 32 :=
  let c1536_i32_1698 : BitVec 32 := 1536#32
  c1536_i32_1698
def k0_mult145 : BitVec 32 :=
  let c1792_i32_1706 : BitVec 32 := 1792#32
  c1792_i32_1706
def k0_mult146 : BitVec 32 :=
  let c1792_i32_1713 : BitVec 32 := 1792#32
  c1792_i32_1713
def k0_mult147 : BitVec 32 :=
  let c2048_i32_1721 : BitVec 32 := 2048#32
  c2048_i32_1721
def k0_mult148 : BitVec 32 :=
  let c2048_i32_1728 : BitVec 32 := 2048#32
  c2048_i32_1728
def k0_mult149 : BitVec 32 :=
  let c2304_i32_1736 : BitVec 32 := 2304#32
  c2304_i32_1736
def k0_mult150 : BitVec 32 :=
  let c2304_i32_1743 : BitVec 32 := 2304#32
  c2304_i32_1743
def k0_mult151 : BitVec 32 :=
  let c2560_i32_1751 : BitVec 32 := 2560#32
  c2560_i32_1751
def k0_mult152 : BitVec 32 :=
  let c2560_i32_1758 : BitVec 32 := 2560#32
  c2560_i32_1758
def k0_mult153 : BitVec 32 :=
  let c2816_i32_1766 : BitVec 32 := 2816#32
  c2816_i32_1766
def k0_mult154 : BitVec 32 :=
  let c2816_i32_1773 : BitVec 32 := 2816#32
  c2816_i32_1773
def k0_mult155 : BitVec 32 :=
  let c3072_i32_1799 : BitVec 32 := 3072#32
  c3072_i32_1799
def k0_mult156 : BitVec 32 :=
  let c3072_i32_1806 : BitVec 32 := 3072#32
  c3072_i32_1806
def k0_mult157 : BitVec 32 :=
  let c3328_i32_1814 : BitVec 32 := 3328#32
  c3328_i32_1814
def k0_mult158 : BitVec 32 :=
  let c3328_i32_1824 : BitVec 32 := 3328#32
  c3328_i32_1824
def k0_mult159 : BitVec 32 :=
  let c3584_i32_1832 : BitVec 32 := 3584#32
  c3584_i32_1832
def k0_mult160 : BitVec 32 :=
  let c3584_i32_1839 : BitVec 32 := 3584#32
  c3584_i32_1839
def k0_mult161 : BitVec 32 :=
  let c3840_i32_1847 : BitVec 32 := 3840#32
  c3840_i32_1847
def k0_mult162 : BitVec 32 :=
  let c3840_i32_1854 : BitVec 32 := 3840#32
  c3840_i32_1854
def k0_mult163 : BitVec 32 :=
  let c0_i32_1903 : BitVec 32 := 0#32
  c0_i32_1903
def k0_mult164 : BitVec 32 :=
  let c0_i32_1910 : BitVec 32 := 0#32
  c0_i32_1910
def k0_mult165 : BitVec 32 :=
  let c256_i32_1918 : BitVec 32 := 256#32
  c256_i32_1918
def k0_mult166 : BitVec 32 :=
  let c256_i32_1925 : BitVec 32 := 256#32
  c256_i32_1925
def k0_mult167 : BitVec 32 :=
  let c512_i32_1933 : BitVec 32 := 512#32
  c512_i32_1933
def k0_mult168 : BitVec 32 :=
  let c512_i32_1940 : BitVec 32 := 512#32
  c512_i32_1940
def k0_mult169 : BitVec 32 :=
  let c768_i32_1948 : BitVec 32 := 768#32
  c768_i32_1948
def k0_mult170 : BitVec 32 :=
  let c768_i32_1955 : BitVec 32 := 768#32
  c768_i32_1955
def k0_mult171 : BitVec 32 :=
  let c1024_i32_1963 : BitVec 32 := 1024#32
  c1024_i32_1963
def k0_mult172 : BitVec 32 :=
  let c1024_i32_1970 : BitVec 32 := 1024#32
  c1024_i32_1970
def k0_mult173 : BitVec 32 :=
  let c1280_i32_1978 : BitVec 32 := 1280#32
  c1280_i32_1978
def k0_mult174 : BitVec 32 :=
  let c1280_i32_1985 : BitVec 32 := 1280#32
  c1280_i32_1985
def k0_mult175 : BitVec 32 :=
  let c1536_i32_1993 : BitVec 32 := 1536#32
  c1536_i32_1993
def k0_mult176 : BitVec 32 :=
  let c1536_i32_2000 : BitVec 32 := 1536#32
  c1536_i32_2000
def k0_mult177 : BitVec 32 :=
  let c1792_i32_2008 : BitVec 32 := 1792#32
  c1792_i32_2008
def k0_mult178 : BitVec 32 :=
  let c1792_i32_2015 : BitVec 32 := 1792#32
  c1792_i32_2015
def k0_mult179 : BitVec 32 :=
  let c2048_i32_2023 : BitVec 32 := 2048#32
  c2048_i32_2023
def k0_mult180 : BitVec 32 :=
  let c2048_i32_2030 : BitVec 32 := 2048#32
  c2048_i32_2030
def k0_mult181 : BitVec 32 :=
  let c2304_i32_2038 : BitVec 32 := 2304#32
  c2304_i32_2038
def k0_mult182 : BitVec 32 :=
  let c2304_i32_2045 : BitVec 32 := 2304#32
  c2304_i32_2045
def k0_mult183 : BitVec 32 :=
  let c2560_i32_2053 : BitVec 32 := 2560#32
  c2560_i32_2053
def k0_mult184 : BitVec 32 :=
  let c2560_i32_2060 : BitVec 32 := 2560#32
  c2560_i32_2060
def k0_mult185 : BitVec 32 :=
  let c2816_i32_2068 : BitVec 32 := 2816#32
  c2816_i32_2068
def k0_mult186 : BitVec 32 :=
  let c2816_i32_2075 : BitVec 32 := 2816#32
  c2816_i32_2075
def k0_mult187 : BitVec 32 :=
  let c3072_i32_2083 : BitVec 32 := 3072#32
  c3072_i32_2083
def k0_mult188 : BitVec 32 :=
  let c3072_i32_2090 : BitVec 32 := 3072#32
  c3072_i32_2090
def k0_mult189 : BitVec 32 :=
  let c3328_i32_2098 : BitVec 32 := 3328#32
  c3328_i32_2098
def k0_mult190 : BitVec 32 :=
  let c3328_i32_2108 : BitVec 32 := 3328#32
  c3328_i32_2108
def k0_mult191 : BitVec 32 :=
  let c3584_i32_2134 : BitVec 32 := 3584#32
  c3584_i32_2134
def k0_mult192 : BitVec 32 :=
  let c3584_i32_2141 : BitVec 32 := 3584#32
  c3584_i32_2141
def k0_mult193 : BitVec 32 :=
  let c3840_i32_2149 : BitVec 32 := 3840#32
  c3840_i32_2149
def k0_mult194 : BitVec 32 :=
  let c3840_i32_2156 : BitVec 32 := 3840#32
  c3840_i32_2156
def k0_mult195 : BitVec 32 :=
  let c0_i32_2341 : BitVec 32 := 0#32
  c0_i32_2341
def k0_mult196 : BitVec 32 :=
  let c0_i32_2348 : BitVec 32 := 0#32
  c0_i32_2348
def k0_mult197 : BitVec 32 :=
  let c256_i32_2356 : BitVec 32 := 256#32
  c256_i32_2356
def k0_mult198 : BitVec 32 :=
  let c256_i32_2363 : BitVec 32 := 256#32
  c256_i32_2363
def k0_mult199 : BitVec 32 :=
  let c512_i32_2371 : BitVec 32 := 512#32
  c512_i32_2371
def k0_mult200 : BitVec 32 :=
  let c512_i32_2378 : BitVec 32 := 512#32
  c512_i32_2378
def k0_mult201 : BitVec 32 :=
  let c768_i32_2386 : BitVec 32 := 768#32
  c768_i32_2386
def k0_mult202 : BitVec 32 :=
  let c768_i32_2393 : BitVec 32 := 768#32
  c768_i32_2393
def k0_mult203 : BitVec 32 :=
  let c1024_i32_2401 : BitVec 32 := 1024#32
  c1024_i32_2401
def k0_mult204 : BitVec 32 :=
  let c1024_i32_2408 : BitVec 32 := 1024#32
  c1024_i32_2408
def k0_mult205 : BitVec 32 :=
  let c1280_i32_2416 : BitVec 32 := 1280#32
  c1280_i32_2416
def k0_mult206 : BitVec 32 :=
  let c1280_i32_2423 : BitVec 32 := 1280#32
  c1280_i32_2423
def k0_mult207 : BitVec 32 :=
  let c1536_i32_2431 : BitVec 32 := 1536#32
  c1536_i32_2431
def k0_mult208 : BitVec 32 :=
  let c1536_i32_2438 : BitVec 32 := 1536#32
  c1536_i32_2438
def k0_mult209 : BitVec 32 :=
  let c1792_i32_2446 : BitVec 32 := 1792#32
  c1792_i32_2446
def k0_mult210 : BitVec 32 :=
  let c1792_i32_2453 : BitVec 32 := 1792#32
  c1792_i32_2453
def k0_mult211 : BitVec 32 :=
  let c2048_i32_2461 : BitVec 32 := 2048#32
  c2048_i32_2461
def k0_mult212 : BitVec 32 :=
  let c2048_i32_2468 : BitVec 32 := 2048#32
  c2048_i32_2468
def k0_mult213 : BitVec 32 :=
  let c2304_i32_2476 : BitVec 32 := 2304#32
  c2304_i32_2476
def k0_mult214 : BitVec 32 :=
  let c2304_i32_2483 : BitVec 32 := 2304#32
  c2304_i32_2483
def k0_mult215 : BitVec 32 :=
  let c2560_i32_2491 : BitVec 32 := 2560#32
  c2560_i32_2491
def k0_mult216 : BitVec 32 :=
  let c2560_i32_2498 : BitVec 32 := 2560#32
  c2560_i32_2498
def k0_mult217 : BitVec 32 :=
  let c2816_i32_2506 : BitVec 32 := 2816#32
  c2816_i32_2506
def k0_mult218 : BitVec 32 :=
  let c2816_i32_2513 : BitVec 32 := 2816#32
  c2816_i32_2513
def k0_mult219 : BitVec 32 :=
  let c3072_i32_2539 : BitVec 32 := 3072#32
  c3072_i32_2539
def k0_mult220 : BitVec 32 :=
  let c3072_i32_2546 : BitVec 32 := 3072#32
  c3072_i32_2546
def k0_mult221 : BitVec 32 :=
  let c3328_i32_2554 : BitVec 32 := 3328#32
  c3328_i32_2554
def k0_mult222 : BitVec 32 :=
  let c3328_i32_2564 : BitVec 32 := 3328#32
  c3328_i32_2564
def k0_mult223 : BitVec 32 :=
  let c3584_i32_2572 : BitVec 32 := 3584#32
  c3584_i32_2572
def k0_mult224 : BitVec 32 :=
  let c3584_i32_2579 : BitVec 32 := 3584#32
  c3584_i32_2579
def k0_mult225 : BitVec 32 :=
  let c3840_i32_2587 : BitVec 32 := 3840#32
  c3840_i32_2587
def k0_mult226 : BitVec 32 :=
  let c3840_i32_2594 : BitVec 32 := 3840#32
  c3840_i32_2594
def k0_mult227 : BitVec 32 :=
  let c0_i32_2643 : BitVec 32 := 0#32
  c0_i32_2643
def k0_mult228 : BitVec 32 :=
  let c0_i32_2650 : BitVec 32 := 0#32
  c0_i32_2650
def k0_mult229 : BitVec 32 :=
  let c256_i32_2658 : BitVec 32 := 256#32
  c256_i32_2658
def k0_mult230 : BitVec 32 :=
  let c256_i32_2665 : BitVec 32 := 256#32
  c256_i32_2665
def k0_mult231 : BitVec 32 :=
  let c512_i32_2673 : BitVec 32 := 512#32
  c512_i32_2673
def k0_mult232 : BitVec 32 :=
  let c512_i32_2680 : BitVec 32 := 512#32
  c512_i32_2680
def k0_mult233 : BitVec 32 :=
  let c768_i32_2688 : BitVec 32 := 768#32
  c768_i32_2688
def k0_mult234 : BitVec 32 :=
  let c768_i32_2695 : BitVec 32 := 768#32
  c768_i32_2695
def k0_mult235 : BitVec 32 :=
  let c1024_i32_2703 : BitVec 32 := 1024#32
  c1024_i32_2703
def k0_mult236 : BitVec 32 :=
  let c1024_i32_2710 : BitVec 32 := 1024#32
  c1024_i32_2710
def k0_mult237 : BitVec 32 :=
  let c1280_i32_2718 : BitVec 32 := 1280#32
  c1280_i32_2718
def k0_mult238 : BitVec 32 :=
  let c1280_i32_2725 : BitVec 32 := 1280#32
  c1280_i32_2725
def k0_mult239 : BitVec 32 :=
  let c1536_i32_2733 : BitVec 32 := 1536#32
  c1536_i32_2733
def k0_mult240 : BitVec 32 :=
  let c1536_i32_2740 : BitVec 32 := 1536#32
  c1536_i32_2740
def k0_mult241 : BitVec 32 :=
  let c1792_i32_2748 : BitVec 32 := 1792#32
  c1792_i32_2748
def k0_mult242 : BitVec 32 :=
  let c1792_i32_2755 : BitVec 32 := 1792#32
  c1792_i32_2755
def k0_mult243 : BitVec 32 :=
  let c2048_i32_2763 : BitVec 32 := 2048#32
  c2048_i32_2763
def k0_mult244 : BitVec 32 :=
  let c2048_i32_2770 : BitVec 32 := 2048#32
  c2048_i32_2770
def k0_mult245 : BitVec 32 :=
  let c2304_i32_2778 : BitVec 32 := 2304#32
  c2304_i32_2778
def k0_mult246 : BitVec 32 :=
  let c2304_i32_2785 : BitVec 32 := 2304#32
  c2304_i32_2785
def k0_mult247 : BitVec 32 :=
  let c2560_i32_2793 : BitVec 32 := 2560#32
  c2560_i32_2793
def k0_mult248 : BitVec 32 :=
  let c2560_i32_2800 : BitVec 32 := 2560#32
  c2560_i32_2800
def k0_mult249 : BitVec 32 :=
  let c2816_i32_2808 : BitVec 32 := 2816#32
  c2816_i32_2808
def k0_mult250 : BitVec 32 :=
  let c2816_i32_2815 : BitVec 32 := 2816#32
  c2816_i32_2815
def k0_mult251 : BitVec 32 :=
  let c3072_i32_2823 : BitVec 32 := 3072#32
  c3072_i32_2823
def k0_mult252 : BitVec 32 :=
  let c3072_i32_2830 : BitVec 32 := 3072#32
  c3072_i32_2830
def k0_mult253 : BitVec 32 :=
  let c3328_i32_2838 : BitVec 32 := 3328#32
  c3328_i32_2838
def k0_mult254 : BitVec 32 :=
  let c3328_i32_2848 : BitVec 32 := 3328#32
  c3328_i32_2848
def k0_mult255 : BitVec 32 :=
  let c3584_i32_2874 : BitVec 32 := 3584#32
  c3584_i32_2874
def k0_mult256 : BitVec 32 :=
  let c3584_i32_2881 : BitVec 32 := 3584#32
  c3584_i32_2881
def k0_mult257 : BitVec 32 :=
  let c3840_i32_2889 : BitVec 32 := 3840#32
  c3840_i32_2889
def k0_mult258 : BitVec 32 :=
  let c3840_i32_2896 : BitVec 32 := 3840#32
  c3840_i32_2896
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c63_i32 : BitVec 32 := 63#32
  let v3 : BitVec 32 := Scalar.minsi v2 c63_i32
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v3 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c4_i32 : BitVec 32 := 4#32
  let v31 : BitVec 32 := Scalar.muli v30 c4_i32
  let c0_i32_12 : BitVec 32 := 0#32
  let c0_i32_13 : BitVec 32 := 0#32
  ![v20.toNat, v31.toNat, c0_i32_12.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c63_i32 : BitVec 32 := 63#32
  let v3 : BitVec 32 := Scalar.minsi v2 c63_i32
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v3 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  let c0_i32_14 : BitVec 32 := 0#32
  ![v20.toNat, c0_i32_12.toNat, c0_i32_13.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let c31_i32 : BitVec 32 := 31#32
  let v3 : BitVec 32 := Scalar.maxsi c0_i32_0 v2
  let v4 : BitVec 32 := Scalar.minsi c31_i32 v3
  let c0_i32_1 : BitVec 32 := 0#32
  let c0_i32_2 : BitVec 32 := 0#32
  ![arg0.toNat, v4.toNat, c0_i32_1.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let c31_i32 : BitVec 32 := 31#32
  let v3 : BitVec 32 := Scalar.maxsi c0_i32 v2
  let v4 : BitVec 32 := Scalar.minsi c31_i32 v3
  let c0_i32_1 : BitVec 32 := 0#32
  let c0_i32_2 : BitVec 32 := 0#32
  ![arg0.toNat, v4.toNat, c0_i32_1.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c2_i32 : BitVec 32 := 2#32
  let v2 : BitVec 32 := Scalar.addi v1 c2_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let c0_i32_1 : BitVec 32 := 0#32
  ![arg0.toNat, v4.toNat, c0_i32_0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c3_i32 : BitVec 32 := 3#32
  let v2 : BitVec 32 := Scalar.addi v1 c3_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let c0_i32_1 : BitVec 32 := 0#32
  ![arg0.toNat, v4.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c4_i32_0 : BitVec 32 := 4#32
  let v2 : BitVec 32 := Scalar.addi v1 c4_i32_0
  let c0_i32 : BitVec 32 := 0#32
  let c31_i32 : BitVec 32 := 31#32
  let v3 : BitVec 32 := Scalar.maxsi c0_i32 v2
  let v4 : BitVec 32 := Scalar.minsi c31_i32 v3
  let c0_i32_1 : BitVec 32 := 0#32
  let c0_i32_2 : BitVec 32 := 0#32
  ![arg0.toNat, v4.toNat, c0_i32_1.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c5_i32 : BitVec 32 := 5#32
  let v2 : BitVec 32 := Scalar.addi v1 c5_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let c0_i32_1 : BitVec 32 := 0#32
  ![arg0.toNat, v4.toNat, c0_i32_0.toNat]

def cc0_transform_13 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let c31_i32 : BitVec 32 := 31#32
  let v3 : BitVec 32 := Scalar.maxsi c0_i32_0 v2
  let v4 : BitVec 32 := Scalar.minsi c31_i32 v3
  let c0_i32_1 : BitVec 32 := 0#32
  let c0_i32_2 : BitVec 32 := 0#32
  let c0_i32_3 : BitVec 32 := 0#32
  ![arg0.toNat, v4.toNat, c0_i32_1.toNat, c0_i32_2.toNat]

def cc0_transform_14 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let c31_i32 : BitVec 32 := 31#32
  let v3 : BitVec 32 := Scalar.maxsi c0_i32 v2
  let v4 : BitVec 32 := Scalar.minsi c31_i32 v3
  let c0_i32_1 : BitVec 32 := 0#32
  let c0_i32_2 : BitVec 32 := 0#32
  let c0_i32_3 : BitVec 32 := 0#32
  ![arg0.toNat, v4.toNat, c0_i32_1.toNat, c0_i32_2.toNat]

def cc0_transform_15 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c2_i32 : BitVec 32 := 2#32
  let v2 : BitVec 32 := Scalar.addi v1 c2_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let c0_i32_1 : BitVec 32 := 0#32
  let c0_i32_2 : BitVec 32 := 0#32
  ![arg0.toNat, v4.toNat, c0_i32_0.toNat, c0_i32_1.toNat]

def cc0_transform_16 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c3_i32 : BitVec 32 := 3#32
  let v2 : BitVec 32 := Scalar.addi v1 c3_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let c0_i32_1 : BitVec 32 := 0#32
  let c0_i32_2 : BitVec 32 := 0#32
  ![arg0.toNat, v4.toNat, c0_i32_0.toNat, c0_i32_1.toNat]

def cc0_transform_17 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c4_i32_0 : BitVec 32 := 4#32
  let v2 : BitVec 32 := Scalar.addi v1 c4_i32_0
  let c0_i32 : BitVec 32 := 0#32
  let c31_i32 : BitVec 32 := 31#32
  let v3 : BitVec 32 := Scalar.maxsi c0_i32 v2
  let v4 : BitVec 32 := Scalar.minsi c31_i32 v3
  let c0_i32_1 : BitVec 32 := 0#32
  let c0_i32_2 : BitVec 32 := 0#32
  let c0_i32_3 : BitVec 32 := 0#32
  ![arg0.toNat, v4.toNat, c0_i32_1.toNat, c0_i32_2.toNat]

def cc0_transform_18 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c5_i32 : BitVec 32 := 5#32
  let v2 : BitVec 32 := Scalar.addi v1 c5_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let c0_i32_1 : BitVec 32 := 0#32
  let c0_i32_2 : BitVec 32 := 0#32
  ![arg0.toNat, v4.toNat, c0_i32_0.toNat, c0_i32_1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c2_i32 : BitVec 32 := 2#32
  let c0_i32_0 : BitVec 32 := 0#32
  let v1 : BitVec 32 := Scalar.select v0 c2_i32 c0_i32_0
  let c0_i32_1 : BitVec 32 := 0#32
  let c0_i32_2 : BitVec 32 := 0#32
  let c0_i32_3 : BitVec 32 := 0#32
  ![v1.toNat, c0_i32_1.toNat, c0_i32_2.toNat]

def cc0_transform_20 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg1 c7_i32
  let c2_i32 : BitVec 32 := 2#32
  let c1_i32 : BitVec 32 := 1#32
  let v1 : BitVec 32 := Scalar.select v0 c2_i32 c1_i32
  let c0_i32 : BitVec 32 := 0#32
  let c0_i32_0 : BitVec 32 := 0#32
  let c0_i32_1 : BitVec 32 := 0#32
  ![v1.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x160x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x160x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x160x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x160x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x160x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x160x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x160x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x128x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![false, true]

abbrev stage0_20 : Fin 2 → Memref sig .tc .vmem S1x128x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![false, true]

abbrev stage0_21 : Fin 1 → Memref sig .tc .vmem S1x128x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x128x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S2x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S512x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 2 → Memref sig .tc .vmem S1x512x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== ReferenceIdeal.lean ====
abbrev S8x4096x8x64 : Shape := ⟨4, ![8, 4096, 8, 64]⟩
abbrev S8x4096x2x64 : Shape := ⟨4, ![8, 4096, 2, 64]⟩
abbrev S1x8 : Shape := ⟨2, ![1, 8]⟩
abbrev S1x512 : Shape := ⟨2, ![1, 512]⟩
abbrev S8x4096x2x4x64 : Shape := ⟨5, ![8, 4096, 2, 4, 64]⟩
abbrev S8x2x4096x4096x4 : Shape := ⟨5, ![8, 2, 4096, 4096, 4]⟩
abbrev S8x2x4x4096x4096 : Shape := ⟨5, ![8, 2, 4, 4096, 4096]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S8x4096x512 : Shape := ⟨3, ![8, 4096, 512]⟩
abbrev S8 : Shape := ⟨1, ![8]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x1x4096x4096 : Shape := ⟨5, ![1, 1, 1, 4096, 4096]⟩
abbrev S1x2x4x1x1 : Shape := ⟨5, ![1, 2, 4, 1, 1]⟩
abbrev S512 : Shape := ⟨1, ![512]⟩
abbrev S8x4096 : Shape := ⟨2, ![8, 4096]⟩
abbrev S8x4096x1 : Shape := ⟨3, ![8, 4096, 1]⟩
abbrev S1x1x512 : Shape := ⟨3, ![1, 1, 512]⟩
abbrev S8x4096x1024 : Shape := ⟨3, ![8, 4096, 1024]⟩

abbrev nBuf : Space → Nat
  | .hbm => 112
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8x4096x8x64, .f32⟩
  | .hbm, ⟨4, _⟩ => ⟨S8x4096x2x64, .f32⟩
  | .hbm, ⟨5, _⟩ => ⟨S8x4096x2x64, .f32⟩
  | .hbm, ⟨6, _⟩ => ⟨S1x8, .f32⟩
  | .hbm, ⟨7, _⟩ => ⟨S1x512, .f32⟩
  | .hbm, ⟨8, _⟩ => ⟨S1x512, .f32⟩
  | .hbm, ⟨9, _⟩ => ⟨S8x4096x2x4x64, .f32⟩
  | .hbm, ⟨10, _⟩ => ⟨S8x2x4096x4096x4, .f32⟩
  | .hbm, ⟨11, _⟩ => ⟨S8x2x4x4096x4096, .f32⟩
  | .hbm, ⟨12, _⟩ => ⟨S_, .f32⟩
  | .hbm, ⟨13, _⟩ => ⟨S8x2x4x4096x4096, .f32⟩
  | .hbm, ⟨14, _⟩ => ⟨S8x2x4x4096x4096, .f32⟩
  | .hbm, ⟨15, _⟩ => ⟨S_, .f32⟩
  | .hbm, ⟨16, _⟩ => ⟨S8x2x4x4096, .f32⟩
  | .hbm, ⟨17, _⟩ => ⟨S_, .f32⟩
  | .hbm, ⟨18, _⟩ => ⟨S8x2x4x4096, .f32⟩
  | .hbm, ⟨19, _⟩ => ⟨S8x2x4x4096, .f32⟩
  | .hbm, ⟨20, _⟩ => ⟨S8x2x4x4096x1, .f32⟩
  | .hbm, ⟨21, _⟩ => ⟨S8x2x4x4096x4096, .f32⟩
  | .hbm, ⟨22, _⟩ => ⟨S8x2x4x4096x4096, .f32⟩
  | .hbm, ⟨23, _⟩ => ⟨S8x2x4x4096x4096, .f32⟩
  | .hbm, ⟨24, _⟩ => ⟨S_, .f32⟩
  | .hbm, ⟨25, _⟩ => ⟨S8x2x4x4096, .f32⟩
  | .hbm, ⟨26, _⟩ => ⟨S8x2x4x4096x1, .f32⟩
  | .hbm, ⟨27, _⟩ => ⟨S8x2x4x4096x4096, .f32⟩
  | .hbm, ⟨28, _⟩ => ⟨S8x2x4x4096x4096, .f32⟩
  | .hbm, ⟨29, _⟩ => ⟨S8x2x64x4x4096, .f32⟩
  | .hbm, ⟨30, _⟩ => ⟨S8x4096x2x4x64, .f32⟩
  | .hbm, ⟨31, _⟩ => ⟨S8x4096x512, .f32⟩
  | .hbm, ⟨32, _⟩ => ⟨S8, .f32⟩
  | .hbm, ⟨33, _⟩ => ⟨S8x4096x2x4x64, .f32⟩
  | .hbm, ⟨34, _⟩ => ⟨S8x2x4096x4096x4, .f32⟩
  | .hbm, ⟨35, _⟩ => ⟨S8x2x4x4096x4096, .f32⟩
  | .hbm, ⟨36, _⟩ => ⟨S_, .f32⟩
  | .hbm, ⟨37, _⟩ => ⟨S8x2x4x4096x4096, .f32⟩
  | .hbm, ⟨38, _⟩ => ⟨S8x2x4x4096x4096, .f32⟩
  | .hbm, ⟨39, _⟩ => ⟨S4096, .i32⟩
  | .hbm, ⟨40, _⟩ => ⟨S1x4096, .i32⟩
  | .hbm, ⟨41, _⟩ => ⟨S4096x1, .i32⟩
  | .hbm, ⟨42, _⟩ => ⟨S4096x4096, .i32⟩
  | .hbm, ⟨43, _⟩ => ⟨S4096x4096, .i32⟩
  | .hbm, ⟨44, _⟩ => ⟨S4096x4096, .i32⟩
  | .hbm, ⟨45, _⟩ => ⟨S4096x4096, .i32⟩
  | .hbm, ⟨46, _⟩ => ⟨S_, .i32⟩
  | .hbm, ⟨47, _⟩ => ⟨S4096x4096, .i32⟩
  | .hbm, ⟨48, _⟩ => ⟨S4096x4096, .i1⟩
  | .hbm, ⟨49, _⟩ => ⟨S1x1x1x4096x4096, .i1⟩
  | .hbm, ⟨50, _⟩ => ⟨S_, .f32⟩
  | .hbm, ⟨51, _⟩ => ⟨S_, .f32⟩
  | .hbm, ⟨52, _⟩ => ⟨S8x2x4x4096x4096, .i1⟩
  | .hbm, ⟨53, _⟩ => ⟨S8x2x4x4096x4096, .f32⟩
  | .hbm, ⟨54, _⟩ => ⟨S8x2x4x4096x4096, .f32⟩
  | .hbm, ⟨55, _⟩ => ⟨S1x2x4x1x1, .f32⟩
  | .hbm, ⟨56, _⟩ => ⟨S_, .f32⟩
  | .hbm, ⟨57, _⟩ => ⟨S8x2x4x4096, .f32⟩
  | .hbm, ⟨58, _⟩ => ⟨S8x2x4x4096x1, .f32⟩
  | .hbm, ⟨59, _⟩ => ⟨S8x2x4x4096x1, .f32⟩
  | .hbm, ⟨60, _⟩ => ⟨S8x2x4x4096x1, .f32⟩
  | .hbm, ⟨61, _⟩ => ⟨S8x2x4x4096x4096, .f32⟩
  | .hbm, ⟨62, _⟩ => ⟨S8x2x4x4096x4096, .f32⟩
  | .hbm, ⟨63, _⟩ => ⟨S8x2x4x4096x4096, .f32⟩
  | .hbm, ⟨64, _⟩ => ⟨S_, .f32⟩
  | .hbm, ⟨65, _⟩ => ⟨S8x2x4x4096, .f32⟩
  | .hbm, ⟨66, _⟩ => ⟨S8x2x4x4096x1, .f32⟩
  | .hbm, ⟨67, _⟩ => ⟨S8x2x4x4096x1, .f32⟩
  | .hbm, ⟨68, _⟩ => ⟨S8x2x4x4096x1, .f32⟩
  | .hbm, ⟨69, _⟩ => ⟨S8x2x4x4096x1, .f32⟩
  | .hbm, ⟨70, _⟩ => ⟨S8x2x4x4096x1, .f32⟩
  | .hbm, ⟨71, _⟩ => ⟨S8x2x4x4096x4096, .f32⟩
  | .hbm, ⟨72, _⟩ => ⟨S8x2x4x4096x4096, .f32⟩
  | .hbm, ⟨73, _⟩ => ⟨S8x2x64x4x4096, .f32⟩
  | .hbm, ⟨74, _⟩ => ⟨S8x4096x2x4x64, .f32⟩
  | .hbm, ⟨75, _⟩ => ⟨S8x4096x512, .f32⟩
  | .hbm, ⟨76, _⟩ => ⟨S512, .f32⟩
  | .hbm, ⟨77, _⟩ => ⟨S8x4096x512, .f32⟩
  | .hbm, ⟨78, _⟩ => ⟨S_, .f32⟩
  | .hbm, ⟨79, _⟩ => ⟨S8x4096, .f32⟩
  | .hbm, ⟨80, _⟩ => ⟨S8x4096x1, .f32⟩
  | .hbm, ⟨81, _⟩ => ⟨S_, .f32⟩
  | .hbm, ⟨82, _⟩ => ⟨S8x4096x1, .f32⟩
  | .hbm, ⟨83, _⟩ => ⟨S8x4096x1, .f32⟩
  | .hbm, ⟨84, _⟩ => ⟨S_, .f32⟩
  | .hbm, ⟨85, _⟩ => ⟨S8x4096x1, .f32⟩
  | .hbm, ⟨86, _⟩ => ⟨S8x4096x1, .f32⟩
  | .hbm, ⟨87, _⟩ => ⟨S8x4096x1, .f32⟩
  | .hbm, ⟨88, _⟩ => ⟨S8x4096x512, .f32⟩
  | .hbm, ⟨89, _⟩ => ⟨S8x4096x512, .f32⟩
  | .hbm, ⟨90, _⟩ => ⟨S1x1x512, .f32⟩
  | .hbm, ⟨91, _⟩ => ⟨S8x4096x512, .f32⟩
  | .hbm, ⟨92, _⟩ => ⟨S8x4096x512, .f32⟩
  | .hbm, ⟨93, _⟩ => ⟨S512, .f32⟩
  | .hbm, ⟨94, _⟩ => ⟨S8x4096x512, .f32⟩
  | .hbm, ⟨95, _⟩ => ⟨S_, .f32⟩
  | .hbm, ⟨96, _⟩ => ⟨S8x4096, .f32⟩
  | .hbm, ⟨97, _⟩ => ⟨S8x4096x1, .f32⟩
  | .hbm, ⟨98, _⟩ => ⟨S_, .f32⟩
  | .hbm, ⟨99, _⟩ => ⟨S8x4096x1, .f32⟩
  | .hbm, ⟨100, _⟩ => ⟨S8x4096x1, .f32⟩
  | .hbm, ⟨101, _⟩ => ⟨S_, .f32⟩
  | .hbm, ⟨102, _⟩ => ⟨S8x4096x1, .f32⟩
  | .hbm, ⟨103, _⟩ => ⟨S8x4096x1, .f32⟩
  | .hbm, ⟨104, _⟩ => ⟨S8x4096x1, .f32⟩
  | .hbm, ⟨105, _⟩ => ⟨S8x4096x512, .f32⟩
  | .hbm, ⟨106, _⟩ => ⟨S8x4096x512, .f32⟩
  | .hbm, ⟨107, _⟩ => ⟨S1x1x512, .f32⟩
  | .hbm, ⟨108, _⟩ => ⟨S8x4096x512, .f32⟩
  | .hbm, ⟨109, _⟩ => ⟨S8x4096x512, .f32⟩
  | .hbm, ⟨110, _⟩ => ⟨S8x4096x1024, .f32⟩
  | .hbm, ⟨111, _⟩ => ⟨S8x4096x1024, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_10 : Ref sig .tc := ⟨.hbm, 95, rfl⟩
abbrev main_v71 : Ref sig .tc := ⟨.hbm, 96, rfl⟩
abbrev main_v72 : Ref sig .tc := ⟨.hbm, 97, rfl⟩
abbrev main_cst_11 : Ref sig .tc := ⟨.hbm, 98, rfl⟩
abbrev main_v73 : Ref sig .tc := ⟨.hbm, 99, rfl⟩
abbrev main_v74 : Ref sig .tc := ⟨.hbm, 100, rfl⟩
abbrev main_cst_12 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩

abbrev nD : Nat := 1
abbrev τ : Topo := Topo.v7x

variable {F : FTy → Type} [FloatOps F]
-- ==== Proof.Attention.Body.lean ====
/-
  What the attention's body does to the buffers it is handed: it keeps them. A program of loads, stores, counted loops
  and branches through buffers that are HELD — owned, with whatever contents — leaves them held, and every operation of
  the body is one of those. So nothing of what is stored has to be followed, and both sides of the body's branch are one
  statement.
-/
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.KernelIdeal.Attention

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A buffer owned whole, at contents nobody states. -/
def held (c : Dev nD) {sp : Space} {s : Shape} {e : EltTy} (a : Memref sig .tc sp s e) : sProp 𝕄 :=
  iprop(∃ f : Buf (Elt F) (a.view.loc (c : Thread nD τ)), a.view.loc (c : Thread nD τ) ↦[a.view.set]{fullShare} f)

/-- The resources of a list, together. -/
def together : List (sProp 𝕄) → sProp 𝕄
  | [] => iprop(emp)
  | P :: L => iprop(P ∗ together L)

/-- One of the list can be lent out and taken back. -/
theorem together_lend {P : sProp 𝕄} {L : List (sProp 𝕄)} (h : P ∈ L) :
    together L ⊢ iprop(P ∗ (P -∗ together L)) := by
  induction h with
  | head L =>
    simp only [together]
    iintro ⟨HP, HL⟩
    isplitl [HP]
    · iexact HP
    · iintro HP
      isplitl [HP] <;> iassumption
  | @tail X L _ ih =>
    simp only [together]
    iintro ⟨HX, HL⟩
    ihave ⟨HP, HK⟩ := ih $$ HL
    isplitl [HP]
    · iexact HP
    · iintro HP
      isplitl [HX]
      · iexact HX
      · iapply HK $$ HP

/-- The program keeps the list: run from it, it gives it back. -/
def Keeps (c : Dev nD) (L : List (sProp 𝕄)) {α : Type} (p : Prog (TpuEff nD τ sig (Elt F) Λ₀ .tc) α) : Prop :=
  together L ⊢ wp frame (wpE (defs₀ (F := F)) Variants.none (c : Thread nD τ) none) Set.univ p fun _ => together L

namespace Keeps

variable {c : Dev nD} {L : List (sProp (MT nD τ sig Unit (Elt F) ℕ (UR sig nD τ) ℕ))} {α β : Type}

theorem pure (a : α) : Keeps c L (Pure.pure a) := by
  unfold Keeps
  rw [wp_pure]
  exact fupd_intro

theorem bind {p : Prog (TpuEff nD τ sig (Elt F) Λ₀ .tc) β} {k : β → Prog (TpuEff nD τ sig (Elt F) Λ₀ .tc) α}
    (hp : Keeps c L p) (hk : ∀ a, Keeps c L (k a)) : Keeps c L (p >>= k) := by
  unfold Keeps
  rw [wp_bind]
  exact hp.trans (wp_mono _ _ _ hk)

theorem load {s : Shape} {e : EltTy} {a : Memref sig .tc .vmem s e} (h : held c a ∈ L) (r : LoadRect s)
    (hl : a.view.LoadsAt r) :
    Keeps c L (Prog.lift (.load a r hl) : Prog (TpuEff nD τ sig (Elt F) Λ₀ .tc) _) := by
  unfold Keeps
  refine (together_lend h).trans ?_
  unfold held
  iintro ⟨⟨%f, HP⟩, HK⟩
  iapply (wp_load Variants.none (c : Thread nD τ) none Set.univ (a.view.setOn_subset_set r.set)) $$ HP
  iintro HP
  iapply (le_wp_ret _ _ _ _ _)
  iapply HK
  iexists f
  iexact HP

theorem store {s : Shape} {e : EltTy} {a : Memref sig .tc .vmem s e} (h : held c a ∈ L) (r : Rect s)
    (w : r.shape.Idx → Elt F e) (hx : (a.access r).Stores Finset.univ)
    (hm : Finset.univ = Finset.univ ∨ ∀ i, r.stride i = 1) :
    Keeps c L (Prog.lift (.store a r w Finset.univ hx hm) : Prog (TpuEff nD τ sig (Elt F) Λ₀ .tc) _) := by
  unfold Keeps
  refine (together_lend h).trans ?_
  unfold held
  iintro ⟨⟨%f, HP⟩, HK⟩
  iapply (wp_store_writes₀ Variants.none (c : Thread nD τ) none Set.univ (a.view.set_slice_subset r)) $$ HP
  iintro HP
  iapply (le_wp_ret _ _ _ _ _)
  iapply HK
  iexists _
  iexact HP

theorem loop {n : ℕ} {σ : Type} (l : Scf.Loop n) (hok : l.OK) (init : σ)
    (body : Fin l.trips → σ → Prog (TpuEff nD τ sig (Elt F) Λ₀ .tc) σ) (h : ∀ k acc, Keeps c L (body k acc)) :
    Keeps c L (Scf.Loop.for l hok init body) := by
  unfold Keeps
  refine BIBase.Entails.trans ?_ (Scf.wp_for _ _ _ l.lb l.ub l.st hok init body (fun _ _ => together L) h)
  iintro H
  isplitl [H]
  · iexact H
  · iintro %acc H
    iexact H

theorem ite {p : Prop} [Decidable p] {x : p → Prog (TpuEff nD τ sig (Elt F) Λ₀ .tc) α}
    {y : ¬p → Prog (TpuEff nD τ sig (Elt F) Λ₀ .tc) α} (hx : ∀ h, Keeps c L (x h)) (hy : ∀ h, Keeps c L (y h)) :
    Keeps c L (dite p x y) := by
  by_cases h : p
  · rw [dif_pos h]; exact hx h
  · rw [dif_neg h]; exact hy h

end Keeps

set_option maxHeartbeats 0 in
/-- The body keeps any list of resources that has its buffers. -/
theorem keeps_body (c : Dev nD) (L : List (sProp 𝕄))
    (i : grid0.Coords) (arg2 : Memref sig .tc .vmem S1x512x512 .bf16) (harg2 : arg2.IsWhole)
    (arg3 : Memref sig .tc .vmem S1x128x512 .bf16) (harg3 : arg3.IsWhole)
    (arg4 : Memref sig .tc .vmem S1x4096x128 .bf16) (harg4 : arg4.IsWhole)
    (arg5 : Memref sig .tc .vmem S1x4096x128 .bf16) (harg5 : arg5.IsWhole)
    (arg6 : Memref sig .tc .vmem S1x16x160x256 .bf16) (harg6 : arg6.IsWhole)
    (arg7 : Memref sig .tc .vmem S512x128 .f32) (harg7 : arg7.IsWhole) (arg8 : Memref sig .tc .vmem S1x512x512 .bf16)
    (harg8 : arg8.IsWhole) (arg9 : Memref sig .tc .vmem S1x128x128 .bf16) (harg9 : arg9.IsWhole)
    (arg10 : Memref sig .tc .vmem S1x128x128 .bf16) (harg10 : arg10.IsWhole)
    (arg11 : Memref sig .tc .vmem S1x128x128 .bf16) (harg11 : arg11.IsWhole)
    (arg12 : Memref sig .tc .vmem S1x128x128 .bf16) (harg12 : arg12.IsWhole)
    (arg13 : Memref sig .tc .vmem S1x128x128 .bf16) (harg13 : arg13.IsWhole)
    (arg14 : Memref sig .tc .vmem S1x128x128 .bf16) (harg14 : arg14.IsWhole)
    (arg15 : Memref sig .tc .vmem S1x1x160x128 .bf16) (harg15 : arg15.IsWhole)
    (arg16 : Memref sig .tc .vmem S1x1x160x128 .bf16) (harg16 : arg16.IsWhole)
    (arg17 : Memref sig .tc .vmem S1x1x160x128 .bf16) (harg17 : arg17.IsWhole)
    (arg18 : Memref sig .tc .vmem S1x1x160x128 .bf16) (harg18 : arg18.IsWhole)
    (arg19 : Memref sig .tc .vmem S1x1x160x128 .bf16) (harg19 : arg19.IsWhole)
    (arg20 : Memref sig .tc .vmem S1x1x160x128 .bf16) (harg20 : arg20.IsWhole)
    (arg21 : Memref sig .tc .vmem S1x128x512 .f32) (harg21 : arg21.IsWhole)
    (arg22 : Memref sig .tc .vmem S1x128x512 .f32) (harg22 : arg22.IsWhole)
    (arg23 : Memref sig .tc .vmem S1x128x512 .f32) (harg23 : arg23.IsWhole)
    (arg24 : Memref sig .tc .vmem S1x128x512 .f32) (harg24 : arg24.IsWhole) (arg25 : Memref sig .tc .vmem S2x512 .f32)
    (harg25 : arg25.IsWhole) (arg26 : Memref sig .tc .vmem S512x128 .f32) (harg26 : arg26.IsWhole)
    (arg27 : Memref sig .tc .vmem S1x512x1024 .bf16) (harg27 : arg27.IsWhole)
    (arg28 : Memref sig .tc .vmem S2x4096x512 .f32) (harg28 : arg28.IsWhole)
    (arg29 : Memref sig .tc .vmem S4x1x512 .f32) (harg29 : arg29.IsWhole)
    (arg30 : Memref sig .tc .vmem S2x384x512 .f32) (harg30 : arg30.IsWhole)
    (h2 : held c arg2 ∈ L) (h3 : held c arg3 ∈ L) (h4 : held c arg4 ∈ L) (h5 : held c arg5 ∈ L) (h6 : held c arg6 ∈ L)
    (h7 : held c arg7 ∈ L) (h8 : held c arg8 ∈ L) (h9 : held c arg9 ∈ L) (h10 : held c arg10 ∈ L)
    (h11 : held c arg11 ∈ L) (h12 : held c arg12 ∈ L) (h13 : held c arg13 ∈ L) (h14 : held c arg14 ∈ L)
    (h15 : held c arg15 ∈ L) (h16 : held c arg16 ∈ L) (h17 : held c arg17 ∈ L) (h18 : held c arg18 ∈ L)
    (h19 : held c arg19 ∈ L) (h20 : held c arg20 ∈ L) (h21 : held c arg21 ∈ L) (h22 : held c arg22 ∈ L)
    (h23 : held c arg23 ∈ L) (h24 : held c arg24 ∈ L) (h25 : held c arg25 ∈ L) (h26 : held c arg26 ∈ L)
    (h27 : held c arg27 ∈ L) (h28 : held c arg28 ∈ L) (h29 : held c arg29 ∈ L) (h30 : held c arg30 ∈ L) :
    Keeps c L (cc0_attention (F := F)
      i arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19
      arg20 harg20 arg21 harg21 arg22 harg22 arg23 harg23 arg24 harg24 arg25 harg25 arg26 harg26 arg27 harg27 arg28
      harg28 arg29 harg29 arg30 harg30) := by
  rw [cc0_attention_eq_skeleton]
  delta cc0_attention_skel
  repeat'
    first
    | with_reducible exact Keeps.pure _
    | with_reducible exact Keeps.load (by assumption) _ _
    | with_reducible exact Keeps.store (by assumption) _ _ _ _
    | with_reducible refine Keeps.bind ?_ fun _ => ?_
    | with_reducible refine Keeps.loop _ _ _ _ fun _ _ => ?_
    | with_reducible refine Keeps.ite (fun _ => ?_) fun _ => ?_
    | split
    | simp only [
        k0_part1_eq_skeleton, k0_part2_eq_skeleton, k0_part3_eq_skeleton, k0_part4_eq_skeleton, k0_part5_eq_skeleton,
        k0_part6_eq_skeleton, k0_part7_eq_skeleton, k0_part8_eq_skeleton, k0_part9_eq_skeleton, k0_part10_eq_skeleton,
        k0_part11_eq_skeleton, k0_part12_eq_skeleton, k0_part13_eq_skeleton, k0_part14_eq_skeleton,
        k0_part15_eq_skeleton, k0_part16_eq_skeleton, k0_part17_eq_skeleton, k0_part18_eq_skeleton,
        k0_part19_eq_skeleton, k0_part20_eq_skeleton, k0_part21_eq_skeleton, k0_part22_eq_skeleton,
        k0_part23_eq_skeleton, k0_part24_eq_skeleton, k0_part25_eq_skeleton, k0_part26_eq_skeleton,
        k0_part27_eq_skeleton, k0_part28_eq_skeleton, k0_part29_eq_skeleton, k0_part30_eq_skeleton,
        k0_part31_eq_skeleton, k0_part32_eq_skeleton, k0_part33_eq_skeleton, k0_part34_eq_skeleton,
        k0_part35_eq_skeleton, k0_part36_eq_skeleton, k0_part37_eq_skeleton, k0_part38_eq_skeleton,
        k0_part39_eq_skeleton, k0_part40_eq_skeleton, k0_part41_eq_skeleton, k0_part42_eq_skeleton,
        k0_part43_eq_skeleton, k0_part44_eq_skeleton, k0_part45_eq_skeleton, k0_part46_eq_skeleton,
        k0_part47_eq_skeleton, k0_part48_eq_skeleton, k0_part49_eq_skeleton, k0_part50_eq_skeleton,
        k0_part51_eq_skeleton, k0_part52_eq_skeleton, k0_part53_eq_skeleton, k0_part54_eq_skeleton,
        k0_part55_eq_skeleton, k0_part56_eq_skeleton, k0_part57_eq_skeleton, k0_part58_eq_skeleton,
        k0_part59_eq_skeleton, k0_part60_eq_skeleton, k0_part61_eq_skeleton, k0_part62_eq_skeleton,
        k0_part63_eq_skeleton, k0_part64_eq_skeleton, k0_part65_eq_skeleton, k0_part66_eq_skeleton,
        k0_part67_eq_skeleton, k0_part68_eq_skeleton, k0_part69_eq_skeleton, k0_part70_eq_skeleton,
        k0_part71_eq_skeleton, k0_part72_eq_skeleton, k0_part73_eq_skeleton, k0_part74_eq_skeleton,
        k0_part75_eq_skeleton, k0_part76_eq_skeleton, k0_part77_eq_skeleton, k0_part78_eq_skeleton,
        k0_part79_eq_skeleton, k0_part80_eq_skeleton, k0_part81_eq_skeleton, k0_part82_eq_skeleton,
        k0_part83_eq_skeleton, k0_part84_eq_skeleton, k0_part85_eq_skeleton, k0_part86_eq_skeleton,
        k0_part87_eq_skeleton, k0_part88_eq_skeleton, k0_part89_eq_skeleton, k0_part90_eq_skeleton,
        k0_part91_eq_skeleton, k0_part92_eq_skeleton, k0_part93_eq_skeleton, k0_part94_eq_skeleton,
        k0_part95_eq_skeleton, k0_part96_eq_skeleton, k0_part97_eq_skeleton, k0_part98_eq_skeleton,
        k0_part99_eq_skeleton, k0_part100_eq_skeleton, k0_part101_eq_skeleton, k0_part102_eq_skeleton,
        k0_part103_eq_skeleton, k0_part104_eq_skeleton, k0_part105_eq_skeleton, k0_part106_eq_skeleton,
        k0_part107_eq_skeleton, k0_part108_eq_skeleton, k0_part109_eq_skeleton, k0_part110_eq_skeleton,
        k0_part111_eq_skeleton, k0_part112_eq_skeleton, k0_part113_eq_skeleton, k0_part114_eq_skeleton,
        k0_part115_eq_skeleton, k0_part116_eq_skeleton, k0_part117_eq_skeleton, k0_part118_eq_skeleton,
        k0_part119_eq_skeleton, k0_part120_eq_skeleton, k0_part121_eq_skeleton, k0_part122_eq_skeleton,
        k0_part123_eq_skeleton, k0_part124_eq_skeleton, k0_part125_eq_skeleton, k0_part126_eq_skeleton,
        k0_part127_eq_skeleton, k0_part128_eq_skeleton, k0_part129_eq_skeleton, k0_part130_eq_skeleton,
        k0_part131_eq_skeleton, k0_part132_eq_skeleton, k0_part133_eq_skeleton, k0_part134_eq_skeleton,
        k0_part135_eq_skeleton, k0_part136_eq_skeleton, k0_part137_eq_skeleton, k0_part138_eq_skeleton,
        k0_part139_eq_skeleton]
    | delta k0_t1_body k0_t2_body
          k0_part1_skel k0_part2_skel k0_part3_skel k0_part4_skel k0_part5_skel k0_part6_skel k0_part7_skel k0_part8_skel
          k0_part9_skel k0_part10_skel k0_part11_skel k0_part12_skel k0_part13_skel k0_part14_skel k0_part15_skel
          k0_part16_skel k0_part17_skel k0_part18_skel k0_part19_skel k0_part20_skel k0_part21_skel k0_part22_skel
          k0_part23_skel k0_part24_skel k0_part25_skel k0_part26_skel k0_part27_skel k0_part28_skel k0_part29_skel
          k0_part30_skel k0_part31_skel k0_part32_skel k0_part33_skel k0_part34_skel k0_part35_skel k0_part36_skel
          k0_part37_skel k0_part38_skel k0_part39_skel k0_part40_skel k0_part41_skel k0_part42_skel k0_part43_skel
          k0_part44_skel k0_part45_skel k0_part46_skel k0_part47_skel k0_part48_skel k0_part49_skel k0_part50_skel
          k0_part51_skel k0_part52_skel k0_part53_skel k0_part54_skel k0_part55_skel k0_part56_skel k0_part57_skel
          k0_part58_skel k0_part59_skel k0_part60_skel k0_part61_skel k0_part62_skel k0_part63_skel k0_part64_skel
          k0_part65_skel k0_part66_skel k0_part67_skel k0_part68_skel k0_part69_skel k0_part70_skel k0_part71_skel
          k0_part72_skel k0_part73_skel k0_part74_skel k0_part75_skel k0_part76_skel k0_part77_skel k0_part78_skel
          k0_part79_skel k0_part80_skel k0_part81_skel k0_part82_skel k0_part83_skel k0_part84_skel k0_part85_skel
          k0_part86_skel k0_part87_skel k0_part88_skel k0_part89_skel k0_part90_skel k0_part91_skel k0_part92_skel
          k0_part93_skel k0_part94_skel k0_part95_skel k0_part96_skel k0_part97_skel k0_part98_skel k0_part99_skel
          k0_part100_skel k0_part101_skel k0_part102_skel k0_part103_skel k0_part104_skel k0_part105_skel k0_part106_skel
          k0_part107_skel k0_part108_skel k0_part109_skel k0_part110_skel k0_part111_skel k0_part112_skel k0_part113_skel
          k0_part114_skel k0_part115_skel k0_part116_skel k0_part117_skel k0_part118_skel k0_part119_skel k0_part120_skel
          k0_part121_skel k0_part122_skel k0_part123_skel k0_part124_skel k0_part125_skel k0_part126_skel k0_part127_skel
          k0_part128_skel k0_part129_skel k0_part130_skel k0_part131_skel k0_part132_skel k0_part133_skel k0_part134_skel
          k0_part135_skel k0_part136_skel k0_part137_skel k0_part138_skel k0_part139_skel

end Cert.KernelIdeal.Attention

end

end
-- ==== Proof.Attention.Frame.lean ====
/-
  The attention's run: at every point the body keeps the buffers it is handed, so the call ends, faults nowhere, and
  leaves everything it does not stage as it was — its nine arguments among them, none of which a window stages. What the
  windows hold is left open. Over any float values, so that the kernel as printed has its frame from here too.
-/
module

public import proofs.«01_k».proof.Defs
public import proofs.«01_k».proof.Proof.Attention.Body
public import Idealize.ShloMosaic.Lib.Claim

@[expose] public section

set_option maxRecDepth 16384

noncomputable section

namespace Cert.KernelIdeal.Attention

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Owning a buffer at stated contents is holding it. -/
theorem held_of_owns (c : Dev nD) {sp : Space} {s : Shape} {e : EltTy} (a : Memref sig .tc sp s e) (X : s.Idx → Elt F e) :
    (owns (c : Thread nD τ) a fullShare X : sProp 𝕄) ⊢ held c a := by
  unfold owns held
  iintro ⟨%f, -, H⟩
  iexists f
  iexact H

/-- Holding a buffer is owning it at some contents. -/
theorem owns_of_held (c : Dev nD) {sp : Space} {s : Shape} {e : EltTy} (a : Memref sig .tc sp s e) :
    (held c a : sProp 𝕄) ⊢ iprop(∃ X : s.Idx → Elt F e, ⌜True⌝ ∗ owns (c : Thread nD τ) a fullShare X) := by
  unfold owns held
  iintro ⟨%f, H⟩
  iexists (a.view.read (Elt F) f)
  isplitr
  · ipureintro; trivial
  iexists f
  isplitr
  · ipureintro; rfl
  iexact H

/-- A list's resources, conjoined over it. -/
theorem together_map {I : Type} (Φ : I → sProp 𝕄) : ∀ l : List I, together (l.map Φ) ⊣⊢ bigSepL l Φ
  | [] => ⟨.rfl, .rfl⟩
  | [i] => ⟨Laws.sep_emp.1, Laws.sep_emp.2⟩
  | i :: j :: l => ⟨sep_mono .rfl (together_map Φ (j :: l)).1, sep_mono .rfl (together_map Φ (j :: l)).2⟩

/-- A window's current staging buffer at a point, held. -/
abbrev staged (c : Dev nD) (t : Fin cfg0.N) (w : Fin 26) : sProp 𝕄 :=
  held c ((cfg0.win w).stage (cfg0.slots t w))

/-- What the body runs over at a point: the three scratches and the windows' staging buffers. -/
def buffers (c : Dev nD) (t : Fin cfg0.N) : List (sProp 𝕄) :=
  held c (Memref.whole cc0_scratch0) :: held c (Memref.whole cc0_scratch1) :: held c (Memref.whole cc0_scratch2)
    :: (List.finRange 26).map (staged c t)

theorem staged_mem (c : Dev nD) (t : Fin cfg0.N) (w : Fin 26) : (staged c t w : sProp 𝕄) ∈ buffers c t :=
  .tail _ (.tail _ (.tail _ (List.mem_map.2 ⟨w, List.mem_finRange w, rfl⟩)))

/-- The body at a point keeps them. -/
theorem keeps_point (c : Dev nD) (t : Fin cfg0.N) : Keeps c (buffers c t) (bodyAt0 (F := F) t) :=
  keeps_body c (buffers c t) (grid0.coords t)
    _ _ _ _ _ _ _ _ _ _ _ _ _ _ _ _ _ _ _ _ _ _ _ _ _ _ _ _ _ _ _ _ _ _ _ _ _ _ _ _ _ _ _ _ _ _ _ _ _ _ _ _ _ _ _ _ _ _
    (staged_mem c t 0) (staged_mem c t 1) (staged_mem c t 2) (staged_mem c t 3) (staged_mem c t 4)
    (staged_mem c t 5) (staged_mem c t 6) (staged_mem c t 7) (staged_mem c t 8) (staged_mem c t 9)
    (staged_mem c t 10) (staged_mem c t 11) (staged_mem c t 12) (staged_mem c t 13) (staged_mem c t 14)
    (staged_mem c t 15) (staged_mem c t 16) (staged_mem c t 17) (staged_mem c t 18) (staged_mem c t 19)
    (staged_mem c t 20) (staged_mem c t 21) (staged_mem c t 22) (staged_mem c t 23) (staged_mem c t 24)
    (staged_mem c t 25)
    (.head _) (.tail _ (.head _)) (.tail _ (.tail _ (.head _)))

/-- The staging buffers owned are the list held. -/
theorem staged_in (c : Dev nD) (t : Fin cfg0.N) (Y : (w : Fin cfg0.W) → (cfg0.win w).block.Idx → Elt F (cfg0.win w).elt) :
    (bigSep Finset.univ fun w => owns (c : Thread nD τ) ((cfg0.win w).stage (cfg0.slots t w)) fullShare (Y w) : sProp 𝕄)
      ⊢ together ((List.finRange 26).map (staged c t)) := by
  refine BIBase.Entails.trans ?_ (together_map (staged c t) (List.finRange 26)).2
  rw [← bigSep_univ_eq_bigSepL (List.finRange 26) (by decide) (List.nodup_finRange 26)]
  exact bigSep_mono fun w _ => held_of_owns c _ (Y w)

/-- … and the list held is them owned, at some contents each. -/
theorem staged_out (c : Dev nD) (t : Fin cfg0.N) :
    together ((List.finRange 26).map (staged c t))
      ⊢ (bigSep Finset.univ fun w : Fin cfg0.W => iprop(∃ X, ⌜True⌝ ∗ owns (c : Thread nD τ) ((cfg0.win w).stage (cfg0.slots t w)) fullShare X) : sProp 𝕄) := by
  refine BIBase.Entails.trans (together_map (staged c t) (List.finRange 26)).1 ?_
  rw [← bigSep_univ_eq_bigSepL (List.finRange 26) (by decide) (List.nodup_finRange 26)]
  exact bigSep_mono fun w _ => owns_of_held c _

/-- The region's invariant: the scratches held, and the generator at some state. -/
theorem inv_eq (c : Dev nD) :
    (Pipeline.ΦA spec0 c : sProp 𝕄)
      = iprop((held c (Memref.whole cc0_scratch0) ∗ held c (Memref.whole cc0_scratch1) ∗ held c (Memref.whole cc0_scratch2))
          ∗ ∃ r, prngReg c r) := by
  unfold Pipeline.ΦA held
  rw [scopedRest0_eq]
  simp only [Memref.view_whole, View.set_whole]

variable (m : (ℓ : Loc nD τ sig) → Buf (Elt F) ℓ) (ρ : Dev nD → PrngReg)

/-- The proof data: of what the body leaves in a window, nothing. -/
def data (c : Dev nD) : Pipeline.RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- What the call's body is at a point. -/
theorem body_row (t : Fin cfg0.N) : defs₀ (F := F) .tc cfg0.body (cfg0.bodyArgs t (cfg0.slots t)) = bodyAt0 t := by
  unfold defs₀; rw [Defs.onTc_tc]

theorem obligation (c : Dev nD) : (data m c).BodyObligation (defs₀ (F := F)) Variants.none () Set.univ := by
  intro t Y _
  rw [body_row]
  have hin : iprop((data m c).Φ t.castSucc ∗ (data m c).owesAt () t.castSucc
        ∗ bigSep Finset.univ fun w => owns (c : Thread nD τ) ((cfg0.win w).stage (cfg0.slots t w)) fullShare (Y w))
      ⊢ iprop(together (buffers c t) ∗ ((∃ r, prngReg c r) ∗ (data m c).owesAt () t.castSucc)) := by
    rw [show (data m c).Φ t.castSucc = Pipeline.ΦA spec0 c from rfl, inv_eq]
    unfold buffers
    simp only [together]
    iintro ⟨⟨⟨H0, H1, H2⟩, Hg⟩, Ho, HW⟩
    ihave HW := staged_in c t Y $$ HW
    isplitl [H0 H1 H2 HW]
    · isplitl [H0]
      · iexact H0
      isplitl [H1]
      · iexact H1
      isplitl [H2] <;> iassumption
    · isplitl [Hg] <;> iassumption
  refine hin.trans ((sep_mono (keeps_point c t) .rfl).trans ((wp_frame_r _ _ _).trans (wp_mono _ _ _ fun _ => ?_)))
  rw [show (data m c).Φ t.succ = Pipeline.ΦA spec0 c from rfl, inv_eq]
  unfold buffers
  simp only [together]
  iintro ⟨⟨H0, H1, H2, HW⟩, Hg, Ho⟩
  ihave HW := staged_out c t $$ HW
  isplitl [H0 H1 H2 Hg]
  · isplitl [H0 H1 H2]
    · isplitl [H0]
      · iexact H0
      isplitl [H1] <;> iassumption
    · iexact Hg
  · isplitl [Ho]
    · iexact Ho
    · iexact HW

set_option backward.isDefEq.respectTransparency.types false in
/-- The run: it ends, faults nowhere, leaves what it does not stage, and every counter at zero. -/
theorem run : θ_run defs (onTc (τ := τ) (main (F := F))) (s₀ m ρ)
    (fun r => Pipeline.RDat.FramePost cfg0 (data m) (V m) r ∧ r.2.sem = fun _ => 0) :=
  Pipeline.RDat.θ_run_frame_track_shared (Q' := _) cfgs (0 : Fin 1) launch₀0 defs₀ Variants.none (data m) m ρ main
    (hbody := obligation m) (hq := fun _ _ _ => rfl) (howed := fun _ _ => rfl) (V := V m) (hmain := hmain m Variants.none)
    (hA := fun _ _ => rfl) (hin := fun _ => .rfl) (hout := fun _ => .rfl)

/-- The nine arguments at the end are the ones at the start. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
    ∧ r.2.sem = fun _ => 0) :=
  (θ_run defs _ _).mono (fun r h => ⟨fun c =>
    have rest := (h.1 c).2
    ⟨(rest main_arg0 (Pipeline.mem_restRefs_of main_arg0 (by decide) (by decide))).trans (V_main_arg0 m c),
      (rest main_arg1 (Pipeline.mem_restRefs_of main_arg1 (by decide) (by decide))).trans (V_main_arg1 m c),
      (rest main_arg2 (Pipeline.mem_restRefs_of main_arg2 (by decide) (by decide))).trans (V_main_arg2 m c),
      (rest main_arg3 (Pipeline.mem_restRefs_of main_arg3 (by decide) (by decide))).trans (V_main_arg3 m c),
      (rest main_arg4 (Pipeline.mem_restRefs_of main_arg4 (by decide) (by decide))).trans (V_main_arg4 m c),
      (rest main_arg5 (Pipeline.mem_restRefs_of main_arg5 (by decide) (by decide))).trans (V_main_arg5 m c),
      (rest main_arg6 (Pipeline.mem_restRefs_of main_arg6 (by decide) (by decide))).trans (V_main_arg6 m c),
      (rest main_arg7 (Pipeline.mem_restRefs_of main_arg7 (by decide) (by decide))).trans (V_main_arg7 m c),
      (rest main_arg8 (Pipeline.mem_restRefs_of main_arg8 (by decide) (by decide))).trans (V_main_arg8 m c)⟩, h.2⟩) (run m ρ)

end Cert.KernelIdeal.Attention

end

end
-- ==== Proof.Attention.Printed.lean ====
/-
  The attention as printed: its text is its idealization's, so its frame is the run's at the words' values.
-/
module

public import proofs.«01_k».proof.Proof.Gen.Kernel
public import proofs.«01_k».proof.Proof.Attention.Frame

@[expose] public section

set_option maxRecDepth 65536

noncomputable section

namespace Cert.Kernel.Attention

open Idealize.ShloMosaic Idealize.SL.Sem

set_option smartUnfolding false in
set_option maxHeartbeats 0 in
/-- The attention's frame, from the run over any float values. -/
theorem frame : Cert.quiescent_Kernel :=
  fun m ρ _ => (θ_run Cert.KernelIdeal.defs _ _).mono (fun _ h => h) (Cert.KernelIdeal.Attention.frame (F := Bits) m ρ)

end Cert.Kernel.Attention

end

end
-- ==== Proof.Post.Body.lean ====
/- What one grid point of the output-projection and feed-forward call leaves in its block: the chain of the eleven
   column chunks' contributions, read off the body's run. -/
module

public import proofs.«01_k».proof.Proof.Gen.PostIdeal.Frame
public import Idealize.ShloMosaic.Lib.VecWindow
public import Idealize.ShloMosaic.Lib.Pipeline.Value

@[expose] public section

set_option maxRecDepth 16384

noncomputable section

namespace Cert.PostIdeal.Hand

open Cert.PostIdeal Cert.PostIdeal.Gen
open Idealize.ShloMosaic Idealize.ShloMosaic.TcCoe Idealize.ShloMosaic.Tactic
open Idealize.SL Idealize.SL.RA Idealize.SL.BI Idealize.SL.Sem

variable {F : FTy → Type} [FloatOps F]

/-- The columns of a weight matrix one chunk reads: `256` of them, from column `o` on. -/
def colsAt (w : Vec F S1024x2816 .bf16) (o : ℕ) (ho : o + 256 ≤ 2816) : Vec F S1024x256 .bf16 :=
  View.ld w (Rect.unit (s := S1024x2816) ![0, o] S1024x256.size (by intro a; fin_cases a <;> simp <;> omega))

/-- The rows of the down projection one chunk reads: `256` of them, from row `o` on. -/
def rowsAt (w : Vec F S2816x1024 .bf16) (o : ℕ) (ho : o + 256 ≤ 2816) : Vec F S256x1024 .bf16 :=
  View.ld w (Rect.unit (s := S2816x1024) ![o, 0] S256x1024.size (by intro a; fin_cases a <;> simp <;> omega))

/-- The accumulator after the first `n` chunks, started at zero. -/
def accAfter (h : Vec F S1024x1024 .bf16) (wg wu : Vec F S1024x2816 .bf16) (wd : Vec F S2816x1024 .bf16) :
    (n : ℕ) → n ≤ 11 → Vec F S1024x1024 .f32
  | 0, _ => k0_pay4
  | n + 1, hn => k0_pay5 h (colsAt wg (256 * n) (by omega)) (colsAt wu (256 * n) (by omega))
      (accAfter h wg wu wd n (by omega)) (rowsAt wd (256 * n) (by omega))

/-- The block one grid point leaves, as a function of its input blocks. -/
def block (x0 : Vec F S1024x1024 .f32) (x1 x2 : Vec F S1024x1024 .bf16) (x3 x4 : Vec F S1x1024 .f32)
    (x5 x6 : Vec F S1024x2816 .bf16) (x7 : Vec F S2816x1024 .bf16) (x8 : Vec F S1x1024 .f32) : Vec F S1024x1024 .f32 :=
  k0_pay1 (k0_pay2 x1 x2 x0 x3) (accAfter (k0_pay3 x1 x2 x0 x3 x4) x5 x6 x7 11 le_rfl) x8

theorem zero_offsets : (![0, 0] : Fin 2 → ℕ) = fun _ => 0 := by funext a; fin_cases a <;> rfl

/-- A whole load of an accumulator whose last store was whole reads that store's payload. -/
theorem acc_read_back (v : View sig .tc .vmem S1024x1024 .f32) (i i' : ∀ a, (![0, 0] : Fin 2 → ℕ) a + S1024x1024.size a ≤ S1024x1024.size a)
    (w : Vec F S1024x1024 .f32) (L : List (View.Piece (Elt F) S1024x1024 .f32)) :
    v.readCov (⟨Rect.unit (s := S1024x1024) ![0, 0] ![1024, 1024] i, w⟩ :: L) (Rect.unit (s := S1024x1024) ![0, 0] ![1024, 1024] i').toLoadRect = w :=
  View.readCov_full v i' i w L

set_option maxHeartbeats 4000000 in
/-- The body's one store to its output block is `block` of the input blocks. -/
theorem body_out (c : Dev nD) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x2816 .bf16) (harg6 : arg6.IsWhole) (arg7 : Memref sig .tc .vmem S1024x2816 .bf16) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1024x1024 .f32) (harg10 : arg10.IsWhole) (arg11 : Memref sig .tc .vmem S1024x1024 .f32) (harg11 : arg11.IsWhole)
    (x0 : Vec F S1024x1024 .f32) (x1 : Vec F S1024x1024 .bf16) (x2 : Vec F S1024x1024 .bf16) (x3 : Vec F S1x1024 .f32) (x4 : Vec F S1x1024 .f32) (x5 : Vec F S1024x2816 .bf16) (x6 : Vec F S1024x2816 .bf16) (x7 : Vec F S2816x1024 .bf16) (x8 : Vec F S1x1024 .f32) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8
      = block x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  erw [View.canon_unit_zero (S := S1024x1024) zero_offsets]
  simp only [acc_read_back, View.readAt_eq_ld, harg1.read_unread, harg2.read_unread, harg3.read_unread, harg4.read_unread, harg5.read_unread,
    harg6.read_unread, harg7.read_unread, harg8.read_unread, harg9.read_unread, View.ld_unit_zero (S := S1024x1024) zero_offsets,
    View.ld_unit_zero (S := S1x1024) zero_offsets]
  rfl

end Cert.PostIdeal.Hand
-- ==== Proof.Post.Rows.lean ====
/- One row of the output projection and the feed-forward block as plain arithmetic on the extended reals, and both
   programs' rows read as it: the kernel's payloads and the reference's stages. -/
module

public import proofs.«01_k».proof.Proof.Post.Body
public import proofs.«01_k».proof.Proof.Gen.PostReferenceIdeal.Read
public import Idealize.ShloMosaic.Lib.Pointwise

@[expose] public section

set_option maxRecDepth 16384

noncomputable section

namespace Cert.PostIdeal.Hand

open Cert.PostIdeal Cert.PostIdeal.Gen
open Idealize.ShloMosaic Idealize.ShloMosaic.TcCoe

/-! ## The row -/

/-- A row normalised by its root mean square, times the gains. -/
def rmsRow (X g : Fin 1024 → EReal) (j : Fin 1024) : EReal :=
  X j * Ideal.rsqrt (Ideal.div (∑ k, X k * X k) (Ideal.ofBits .f32 0x44800000#32) + Ideal.ofBits .f32 0x358637BD#32) * g j

/-- The residual row after the mixer: the row plus the normalised projected mixer row. -/
def midRow (x mix : Fin 1024 → EReal) (wo : Fin 1024 → Fin 1024 → EReal) (gp : Fin 1024 → EReal) (j : Fin 1024) : EReal :=
  x j + rmsRow (fun l => ∑ k, mix k * wo k l) gp j

/-- One hidden unit of the gated feed-forward block. -/
def unit (h : Fin 1024 → EReal) (wg wu : Fin 1024 → Fin 2816 → EReal) (k : Fin 2816) : EReal :=
  (∑ l, h l * wg l k) * Ideal.div 1 (1 + Ideal.exp (-(∑ l, h l * wg l k))) * (∑ l, h l * wu l k)

/-- The row the call leaves, from the residual row `y` after the mixer. -/
def outRow (y gf : Fin 1024 → EReal) (wg wu : Fin 1024 → Fin 2816 → EReal) (wd : Fin 2816 → Fin 1024 → EReal)
    (gl : Fin 1024 → EReal) (j : Fin 1024) : EReal :=
  y j + rmsRow (fun l => ∑ k, unit (rmsRow y gf) wg wu k * wd k l) gl j

/-! ## The kernel's payloads -/

theorem mid_payload (v0 v2 : Vec Ideal S1024x1024 .bf16) (v5 : Vec Ideal S1024x1024 .f32) (v7 : Vec Ideal S1x1024 .f32) (r l : Fin 1024) :
    k0_pay2 v0 v2 v5 v7 (ix2 r l)
      = midRow (fun k => v5 (ix2 r k)) (fun k => v0 (ix2 r k)) (fun k j => v2 (ix2 k j)) (fun j => v7 (ix2 0 j)) l := by
  pointwise [k0_pay2]
  rfl

theorem pre_payload (v0 v2 : Vec Ideal S1024x1024 .bf16) (v5 : Vec Ideal S1024x1024 .f32) (v7 v21 : Vec Ideal S1x1024 .f32) (r l : Fin 1024) :
    k0_pay3 v0 v2 v5 v7 v21 (ix2 r l)
      = rmsRow (fun k => k0_pay2 v0 v2 v5 v7 (ix2 r k)) (fun j => v21 (ix2 0 j)) l := by
  pointwise [k0_pay3]
  rfl

theorem last_payload (v20 v281 : Vec Ideal S1024x1024 .f32) (v282 : Vec Ideal S1x1024 .f32) (r l : Fin 1024) :
    k0_pay1 v20 v281 v282 (ix2 r l) = v20 (ix2 r l) + rmsRow (fun k => v281 (ix2 r k)) (fun j => v282 (ix2 0 j)) l := by
  pointwise [k0_pay1]
  rfl

/-- `1 + e^x` is never zero. -/
theorem one_add_exp_ne_zero (x : EReal) : (1 : EReal) + Ideal.exp x ≠ 0 := by
  have h : (0 : EReal) ≤ Ideal.exp x := by
    induction x with
    | bot => simp
    | top => simp
    | coe r => rw [Ideal.exp_coe]; exact_mod_cast (Real.exp_pos r).le
  have : (0 : EReal) < 1 + Ideal.exp x := lt_of_lt_of_le zero_lt_one (le_add_of_nonneg_right h)
  exact this.ne'

/-- A gate divided by `1 + e^-gate` is the gate times the logistic function. -/
theorem gate_eq (g : EReal) : Ideal.div g (1 + Ideal.exp (-g)) = g * Ideal.div 1 (1 + Ideal.exp (-g)) := by
  unfold Ideal.div
  rw [if_neg (one_add_exp_ne_zero _), if_neg (one_add_exp_ne_zero _), one_mul]

/-- One chunk adds its 256 hidden units' contributions to the accumulator. -/
theorem chunk_payload (h : Vec Ideal S1024x1024 .bf16) (wg wu : Vec Ideal S1024x2816 .bf16) (wd : Vec Ideal S2816x1024 .bf16)
    (acc : Vec Ideal S1024x1024 .f32) (o : ℕ) (ho : o + 256 ≤ 2816) (r l : Fin 1024) :
    k0_pay5 h (colsAt wg o ho) (colsAt wu o ho) acc (rowsAt wd o ho) (ix2 r l)
      = acc (ix2 r l) + ∑ k : Fin 256, unit (fun j => h (ix2 r j)) (fun j k => wg (ix2 j k)) (fun j k => wu (ix2 j k)) ⟨o + k, by omega⟩
          * wd (ix2 (⟨o + k, by omega⟩ : Fin 2816) l) := by
  pointwise [k0_pay5, colsAt, rowsAt]
  simp only [sub_eq_add_neg, zero_add, gate_eq, unit]

/-- After `n` chunks the accumulator holds the sum over the first `256 n` hidden units. -/
theorem acc_sum (h : Vec Ideal S1024x1024 .bf16) (wg wu : Vec Ideal S1024x2816 .bf16) (wd : Vec Ideal S2816x1024 .bf16) (r l : Fin 1024) :
    ∀ (n : ℕ) (hn : n ≤ 11), accAfter h wg wu wd n hn (ix2 r l)
      = ∑ k ∈ Finset.range (256 * n), if hk : k < 2816 then
          unit (fun j => h (ix2 r j)) (fun j k => wg (ix2 j k)) (fun j k => wu (ix2 j k)) ⟨k, hk⟩ * wd (ix2 (⟨k, hk⟩ : Fin 2816) l) else 0
  | 0, _ => by
    show k0_pay4 (ix2 r l) = _
    pointwise [k0_pay4]
    simp
  | n + 1, hn => by
    rw [accAfter, chunk_payload, acc_sum h wg wu wd r l n, Nat.mul_succ, Finset.sum_range_add, Finset.sum_range (n := 256)]
    refine congrArg _ (Finset.sum_congr rfl fun k _ => ?_)
    rw [dif_pos (by have := k.isLt; omega)]

/-- The block's entries are the rows' arithmetic. -/
theorem block_apply (x0 : Vec Ideal S1024x1024 .f32) (x1 x2 : Vec Ideal S1024x1024 .bf16) (x3 x4 : Vec Ideal S1x1024 .f32)
    (x5 x6 : Vec Ideal S1024x2816 .bf16) (x7 : Vec Ideal S2816x1024 .bf16) (x8 : Vec Ideal S1x1024 .f32) (r l : Fin 1024) :
    block x0 x1 x2 x3 x4 x5 x6 x7 x8 (ix2 r l)
      = outRow (midRow (fun k => x0 (ix2 r k)) (fun k => x1 (ix2 r k)) (fun k j => x2 (ix2 k j)) (fun j => x3 (ix2 0 j)))
          (fun j => x4 (ix2 0 j)) (fun j k => x5 (ix2 j k)) (fun j k => x6 (ix2 j k)) (fun k j => x7 (ix2 k j)) (fun j => x8 (ix2 0 j)) l := by
  unfold block
  rw [last_payload, mid_payload]
  unfold outRow
  refine congrArg (fun X => _ + rmsRow X _ l) (funext fun j => ?_)
  rw [acc_sum, Finset.sum_range (n := 256 * 11)]
  refine Finset.sum_congr rfl fun k _ => ?_
  rw [dif_pos k.isLt]
  simp only [pre_payload, mid_payload]

/-! ## The reference's stages -/

open Cert.PostReferenceIdeal.Read

section Reference

variable (x0 x1 : Vec Ideal PostReferenceIdeal.S8x4096x1024 .f32) (x2 : Vec Ideal PostReferenceIdeal.S1x1024x1024 .f32)
  (x3 x4 : Vec Ideal PostReferenceIdeal.S1x1024 .f32) (x5 x6 : Vec Ideal PostReferenceIdeal.S1x1024x2816 .f32)
  (x7 : Vec Ideal PostReferenceIdeal.S1x2816x1024 .f32) (x8 : Vec Ideal PostReferenceIdeal.S1x1024 .f32)
  (b : Fin 8) (s : Fin 4096)

theorem ref_proj (l : Fin 1024) :
    val_main_v1 (F := Ideal) x1 x2 (ix3 b s l) = ∑ k, x1 (ix3 b s k) * x2 (ix3 0 k l) := by
  pointwise [val_main_v1, val_main_v0]

theorem ref_mid (l : Fin 1024) :
    val_main_v16 (F := Ideal) x0 x1 x2 x3 (ix3 b s l)
      = midRow (fun k => x0 (ix3 b s k)) (fun k => x1 (ix3 b s k)) (fun k j => x2 (ix3 0 k j)) (fun j => x3 (ix2 0 j)) l := by
  unfold midRow rmsRow
  pointwise [val_main_v16, val_main_v15, val_main_v14, val_main_v13, val_main_v12, val_main_v11, val_main_v10, val_main_v9, val_main_v8, val_main_cst_1,
    val_main_v7, val_main_v6, val_main_cst_0, val_main_v5, val_main_v4, val_main_cst, val_main_v3, val_main_v2]
  simp only [ref_proj]

theorem ref_pre (l : Fin 1024) :
    val_main_v30 (F := Ideal) x0 x1 x2 x3 x4 (ix3 b s l)
      = rmsRow (fun k => val_main_v16 (F := Ideal) x0 x1 x2 x3 (ix3 b s k)) (fun j => x4 (ix2 0 j)) l := by
  unfold rmsRow
  pointwise [val_main_v30, val_main_v29, val_main_v28, val_main_v27, val_main_v26, val_main_v25, val_main_v24, val_main_v23, val_main_cst_4,
    val_main_v22, val_main_v21, val_main_cst_3, val_main_v20, val_main_v19, val_main_cst_2, val_main_v18, val_main_v17]

theorem ref_unit (k : Fin 2816) :
    val_main_v36 (F := Ideal) x0 x1 x2 x3 x4 x5 x6 (ix3 b s k)
      = unit (fun l => val_main_v30 (F := Ideal) x0 x1 x2 x3 x4 (ix3 b s l)) (fun j k => x5 (ix3 0 j k)) (fun j k => x6 (ix3 0 j k)) k := by
  unfold unit
  pointwise [val_main_v36, val_main_v35, val_main_v34, val_main_v33, val_main_v32, val_main_v31, val_main_call0_v5, val_main_call0_v4, val_main_call0_cst_0,
    val_main_call0_v3, val_main_call0_v2, val_main_call0_cst, val_main_call0_v1, val_main_call0_v0]

theorem ref_down (l : Fin 1024) :
    val_main_v38 (F := Ideal) x0 x1 x2 x3 x4 x5 x6 x7 (ix3 b s l)
      = ∑ k, val_main_v36 (F := Ideal) x0 x1 x2 x3 x4 x5 x6 (ix3 b s k) * x7 (ix3 0 k l) := by
  pointwise [val_main_v38, val_main_v37]

theorem ref_last (l : Fin 1024) :
    val_main_v53 (F := Ideal) x0 x1 x2 x3 x4 x5 x6 x7 x8 (ix3 b s l)
      = val_main_v16 (F := Ideal) x0 x1 x2 x3 (ix3 b s l)
        + rmsRow (fun k => val_main_v38 (F := Ideal) x0 x1 x2 x3 x4 x5 x6 x7 (ix3 b s k)) (fun j => x8 (ix2 0 j)) l := by
  unfold rmsRow
  pointwise [val_main_v53, val_main_v52, val_main_v51, val_main_v50, val_main_v49, val_main_v48, val_main_v47, val_main_v46, val_main_v45, val_main_cst_7,
    val_main_v44, val_main_v43, val_main_cst_6, val_main_v42, val_main_v41, val_main_cst_5, val_main_v40, val_main_v39]

/-- The reference's entries are the rows' arithmetic. -/
theorem ref_apply (l : Fin 1024) :
    val_main_v53 (F := Ideal) x0 x1 x2 x3 x4 x5 x6 x7 x8 (ix3 b s l)
      = outRow (midRow (fun k => x0 (ix3 b s k)) (fun k => x1 (ix3 b s k)) (fun k j => x2 (ix3 0 k j)) (fun j => x3 (ix2 0 j)))
          (fun j => x4 (ix2 0 j)) (fun j k => x5 (ix3 0 j k)) (fun j k => x6 (ix3 0 j k)) (fun k j => x7 (ix3 0 k j)) (fun j => x8 (ix2 0 j)) l := by
  rw [ref_last]
  unfold outRow
  simp only [ref_down, ref_unit, ref_pre, ref_mid]

end Reference

end Cert.PostIdeal.Hand
-- ==== Proof.Post.Value.lean ====
/- The whole result of the output-projection and feed-forward call: each grid point's block is a block of one
   function of the arguments, the blocks cover the array, and the host line after the call reshapes it. -/
module

public import proofs.«01_k».proof.Proof.Post.Rows

@[expose] public section

set_option maxRecDepth 16384

noncomputable section

namespace Cert.PostIdeal.Hand

open Cert.PostIdeal Cert.PostIdeal.Gen
open Idealize.ShloMosaic Idealize.ShloMosaic.TcCoe Idealize.SL.Sem
open Cert.PostReferenceIdeal.Read

variable (m : (ℓ : Loc nD τ sig) → Buf (Elt Ideal) ℓ) (ρ : Dev nD → PrngReg)

/-- The arguments. -/
abbrev a0 (c : Dev nD) : Vec Ideal S8x4096x1024 .f32 := m ((c : Thread nD τ).loc main_arg0)
abbrev a1 (c : Dev nD) : Vec Ideal S8x4096x1024 .f32 := m ((c : Thread nD τ).loc main_arg1)
abbrev a2 (c : Dev nD) : Vec Ideal S1x1024x1024 .f32 := m ((c : Thread nD τ).loc main_arg2)
abbrev a3 (c : Dev nD) : Vec Ideal S1x1024 .f32 := m ((c : Thread nD τ).loc main_arg3)
abbrev a4 (c : Dev nD) : Vec Ideal S1x1024 .f32 := m ((c : Thread nD τ).loc main_arg4)
abbrev a5 (c : Dev nD) : Vec Ideal S1x1024x2816 .f32 := m ((c : Thread nD τ).loc main_arg5)
abbrev a6 (c : Dev nD) : Vec Ideal S1x1024x2816 .f32 := m ((c : Thread nD τ).loc main_arg6)
abbrev a7 (c : Dev nD) : Vec Ideal S1x2816x1024 .f32 := m ((c : Thread nD τ).loc main_arg7)
abbrev a8 (c : Dev nD) : Vec Ideal S1x1024 .f32 := m ((c : Thread nD τ).loc main_arg8)

/-- The reference's result at the kernel's arguments. -/
def result (c : Dev nD) : Vec Ideal S8x4096x1024 .f32 :=
  val_main_v53 (F := Ideal) (a0 m c) (a1 m c) (a2 m c) (a3 m c) (a4 m c) (a5 m c) (a6 m c) (a7 m c) (a8 m c)

/-- The batch and the position of one of the call's rows. -/
def batchOf (r : Fin 32768) : Fin 8 := ⟨r.val / 4096, by omega⟩
def posOf (r : Fin 32768) : Fin 4096 := ⟨r.val % 4096, by omega⟩

/-- The array the call leaves: the result with batch and position merged. -/
def merged (c : Dev nD) : Vec Ideal S32768x1024 .f32 := fun i => result m c (ix3 (batchOf (i 0)) (posOf (i 0)) (i 1))

/-! ## What the host code hands the call -/

theorem V_v8 (c : Dev nD) : (V m c main_v8 : Vec Ideal S32768x1024 .f32) = shapeCast _ (a0 m c) shapeCasts_S8x4096x1024_S32768x1024 := by
  simp only [V, V0, hostOps0, List.flatten_cons, List.flatten_nil, List.append_nil, List.cons_append, List.nil_append]
  after_results; rfl
theorem V_v10 (c : Dev nD) : (V m c main_v10 : Vec Ideal S32768x1024 .bf16)
    = shapeCast _ (truncf (F := Ideal) .bf16 (a1 m c) bitsLt_bf16_f32) shapeCasts_S8x4096x1024_S32768x1024 := by
  simp only [V, V0, hostOps0, List.flatten_cons, List.flatten_nil, List.append_nil, List.cons_append, List.nil_append]
  after_results; rfl
theorem V_v7 (c : Dev nD) : (V m c main_v7 : Vec Ideal S1024x1024 .bf16)
    = truncf (F := Ideal) .bf16 (shapeCast _ (a2 m c) shapeCasts_S1x1024x1024_S1024x1024 : Vec Ideal S1024x1024 .f32) bitsLt_bf16_f32 := by
  simp only [V, V0, hostOps0, List.flatten_cons, List.flatten_nil, List.append_nil, List.cons_append, List.nil_append]
  after_results; rfl
theorem V_v1 (c : Dev nD) : (V m c main_v1 : Vec Ideal S1024x2816 .bf16)
    = truncf (F := Ideal) .bf16 (shapeCast _ (a5 m c) shapeCasts_S1x1024x2816_S1024x2816 : Vec Ideal S1024x2816 .f32) bitsLt_bf16_f32 := by
  simp only [V, V0, hostOps0, List.flatten_cons, List.flatten_nil, List.append_nil, List.cons_append, List.nil_append]
  after_results; rfl
theorem V_v3 (c : Dev nD) : (V m c main_v3 : Vec Ideal S1024x2816 .bf16)
    = truncf (F := Ideal) .bf16 (shapeCast _ (a6 m c) shapeCasts_S1x1024x2816_S1024x2816 : Vec Ideal S1024x2816 .f32) bitsLt_bf16_f32 := by
  simp only [V, V0, hostOps0, List.flatten_cons, List.flatten_nil, List.append_nil, List.cons_append, List.nil_append]
  after_results; rfl
theorem V_v5 (c : Dev nD) : (V m c main_v5 : Vec Ideal S2816x1024 .bf16)
    = truncf (F := Ideal) .bf16 (shapeCast _ (a7 m c) shapeCasts_S1x2816x1024_S2816x1024 : Vec Ideal S2816x1024 .f32) bitsLt_bf16_f32 := by
  simp only [V, V0, hostOps0, List.flatten_cons, List.flatten_nil, List.append_nil, List.cons_append, List.nil_append]
  after_results; rfl

/-! ## The blocks -/

/-- Windows 0, 1 and 9 are at row block `t`; every other window stays. -/
theorem idx_rows : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_9.index t (0 : Fin 2) = t.val ∧ win0_9.index t (1 : Fin 2) = 0) := (by decide +kernel : ∀ t : Fin grid0.N, _)
theorem idx_stay : ∀ t : Fin cfg0.N, (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0)
    ∧ (win0_7.index t (0 : Fin 2) = 0 ∧ win0_7.index t (1 : Fin 2) = 0) ∧ (win0_8.index t (0 : Fin 2) = 0 ∧ win0_8.index t (1 : Fin 2) = 0) :=
  (by decide +kernel : ∀ t : Fin grid0.N, _)

/-- Row `r` of the block at grid point `t` in the whole array. -/
def rowAt (t : Fin cfg0.N) (r : Fin 1024) : Fin 32768 :=
  ⟨1024 * t.val + r.val, by have : t.val < 32 := t.isLt; omega⟩

theorem blk0 (c : Dev nD) (t : Fin cfg0.N) (r k : Fin 1024) :
    (iblk m c 0 t : Vec Ideal S1024x1024 .f32) (ix2 r k) = a0 m c (ix3 (batchOf (rowAt t r)) (posOf (rowAt t r)) k) := by
  obtain ⟨⟨e0, e1⟩, -⟩ := idx_rows t
  have he : ((cfg0.win 0).blk t).view.emb (ix2 r k) = (ix2 (rowAt t r) k : S32768x1024.Idx) := by
    funext a; apply Fin.ext
    match a with
    | ⟨0, _⟩ => show win0_0.index t (0 : Fin 2) * 1024 + 1 * r.val = 1024 * t.val + r.val; omega
    | ⟨1, _⟩ => show win0_0.index t (1 : Fin 2) * 1024 + 1 * k.val = k.val; omega
  show (V m c main_v8 : Vec Ideal S32768x1024 .f32) (((cfg0.win 0).blk t).view.emb (ix2 r k)) = _
  rw [he, V_v8]
  generalize rowAt t r = R
  pointwise []
  rfl

theorem blk1 (c : Dev nD) (t : Fin cfg0.N) (r k : Fin 1024) :
    (iblk m c 1 t : Vec Ideal S1024x1024 .bf16) (ix2 r k) = a1 m c (ix3 (batchOf (rowAt t r)) (posOf (rowAt t r)) k) := by
  obtain ⟨-, ⟨e0, e1⟩, -⟩ := idx_rows t
  have he : ((cfg0.win 1).blk t).view.emb (ix2 r k) = (ix2 (rowAt t r) k : S32768x1024.Idx) := by
    funext a; apply Fin.ext
    match a with
    | ⟨0, _⟩ => show win0_1.index t (0 : Fin 2) * 1024 + 1 * r.val = 1024 * t.val + r.val; omega
    | ⟨1, _⟩ => show win0_1.index t (1 : Fin 2) * 1024 + 1 * k.val = k.val; omega
  show (V m c main_v10 : Vec Ideal S32768x1024 .bf16) (((cfg0.win 1).blk t).view.emb (ix2 r k)) = _
  rw [he, V_v10]
  generalize rowAt t r = R
  pointwise []
  rfl

/-- A window that stays at block zero of an array as large as itself reads the array. -/
theorem blk2 (c : Dev nD) (t : Fin cfg0.N) (r k : Fin 1024) :
    (iblk m c 2 t : Vec Ideal S1024x1024 .bf16) (ix2 r k) = a2 m c (ix3 0 r k) := by
  obtain ⟨⟨e0, e1⟩, -⟩ := idx_stay t
  have he : ((cfg0.win 2).blk t).view.emb (ix2 r k) = (ix2 r k : S1024x1024.Idx) := by
    funext a; apply Fin.ext
    match a with
    | ⟨0, _⟩ => show win0_2.index t (0 : Fin 2) * 1024 + 1 * r.val = r.val; omega
    | ⟨1, _⟩ => show win0_2.index t (1 : Fin 2) * 1024 + 1 * k.val = k.val; omega
  show (V m c main_v7 : Vec Ideal S1024x1024 .bf16) (((cfg0.win 2).blk t).view.emb (ix2 r k)) = _
  rw [he, V_v7]
  pointwise []

theorem blk5 (c : Dev nD) (t : Fin cfg0.N) (r : Fin 1024) (k : Fin 2816) :
    (iblk m c 5 t : Vec Ideal S1024x2816 .bf16) (ix2 r k) = a5 m c (ix3 0 r k) := by
  obtain ⟨-, -, -, ⟨e0, e1⟩, -⟩ := idx_stay t
  have he : ((cfg0.win 5).blk t).view.emb (ix2 r k) = (ix2 r k : S1024x2816.Idx) := by
    funext a; apply Fin.ext
    match a with
    | ⟨0, _⟩ => show win0_5.index t (0 : Fin 2) * 1024 + 1 * r.val = r.val; omega
    | ⟨1, _⟩ => show win0_5.index t (1 : Fin 2) * 2816 + 1 * k.val = k.val; omega
  show (V m c main_v1 : Vec Ideal S1024x2816 .bf16) (((cfg0.win 5).blk t).view.emb (ix2 r k)) = _
  rw [he, V_v1]
  pointwise []

theorem blk6 (c : Dev nD) (t : Fin cfg0.N) (r : Fin 1024) (k : Fin 2816) :
    (iblk m c 6 t : Vec Ideal S1024x2816 .bf16) (ix2 r k) = a6 m c (ix3 0 r k) := by
  obtain ⟨-, -, -, -, ⟨e0, e1⟩, -⟩ := idx_stay t
  have he : ((cfg0.win 6).blk t).view.emb (ix2 r k) = (ix2 r k : S1024x2816.Idx) := by
    funext a; apply Fin.ext
    match a with
    | ⟨0, _⟩ => show win0_6.index t (0 : Fin 2) * 1024 + 1 * r.val = r.val; omega
    | ⟨1, _⟩ => show win0_6.index t (1 : Fin 2) * 2816 + 1 * k.val = k.val; omega
  show (V m c main_v3 : Vec Ideal S1024x2816 .bf16) (((cfg0.win 6).blk t).view.emb (ix2 r k)) = _
  rw [he, V_v3]
  pointwise []

theorem blk7 (c : Dev nD) (t : Fin cfg0.N) (r : Fin 2816) (k : Fin 1024) :
    (iblk m c 7 t : Vec Ideal S2816x1024 .bf16) (ix2 r k) = a7 m c (ix3 0 r k) := by
  obtain ⟨-, -, -, -, -, ⟨e0, e1⟩, -⟩ := idx_stay t
  have he : ((cfg0.win 7).blk t).view.emb (ix2 r k) = (ix2 r k : S2816x1024.Idx) := by
    funext a; apply Fin.ext
    match a with
    | ⟨0, _⟩ => show win0_7.index t (0 : Fin 2) * 2816 + 1 * r.val = r.val; omega
    | ⟨1, _⟩ => show win0_7.index t (1 : Fin 2) * 1024 + 1 * k.val = k.val; omega
  show (V m c main_v5 : Vec Ideal S2816x1024 .bf16) (((cfg0.win 7).blk t).view.emb (ix2 r k)) = _
  rw [he, V_v5]
  pointwise []

theorem blk3 (c : Dev nD) (t : Fin cfg0.N) : (iblk m c 3 t : Vec Ideal S1x1024 .f32) = a3 m c := by
  obtain ⟨-, ⟨e0, e1⟩, -⟩ := idx_stay t
  funext j
  show V m c main_arg3 (((cfg0.win 3).blk t).view.emb j) = _
  rw [V_main_arg3]
  refine congrArg (a3 m c) (funext fun a => Fin.ext ?_)
  match a with
  | ⟨0, _⟩ => show win0_3.index t (0 : Fin 2) * 1 + 1 * (j 0).val = (j 0).val; omega
  | ⟨1, _⟩ => show win0_3.index t (1 : Fin 2) * 1024 + 1 * (j 1).val = (j 1).val; omega

theorem blk4 (c : Dev nD) (t : Fin cfg0.N) : (iblk m c 4 t : Vec Ideal S1x1024 .f32) = a4 m c := by
  obtain ⟨-, -, ⟨e0, e1⟩, -⟩ := idx_stay t
  funext j
  show V m c main_arg4 (((cfg0.win 4).blk t).view.emb j) = _
  rw [V_main_arg4]
  refine congrArg (a4 m c) (funext fun a => Fin.ext ?_)
  match a with
  | ⟨0, _⟩ => show win0_4.index t (0 : Fin 2) * 1 + 1 * (j 0).val = (j 0).val; omega
  | ⟨1, _⟩ => show win0_4.index t (1 : Fin 2) * 1024 + 1 * (j 1).val = (j 1).val; omega

theorem blk8 (c : Dev nD) (t : Fin cfg0.N) : (iblk m c 8 t : Vec Ideal S1x1024 .f32) = a8 m c := by
  obtain ⟨-, -, -, -, -, -, e0, e1⟩ := idx_stay t
  funext j
  show V m c main_arg8 (((cfg0.win 8).blk t).view.emb j) = _
  rw [V_main_arg8]
  refine congrArg (a8 m c) (funext fun a => Fin.ext ?_)
  match a with
  | ⟨0, _⟩ => show win0_8.index t (0 : Fin 2) * 1 + 1 * (j 0).val = (j 0).val; omega
  | ⟨1, _⟩ => show win0_8.index t (1 : Fin 2) * 1024 + 1 * (j 1).val = (j 1).val; omega

/-- What a grid point leaves in the output's block, entry by entry. -/
theorem point_apply (c : Dev nD) (t : Fin cfg0.N) (r l : Fin 1024) :
    outsAt0 m c t (ix2 r l) = merged m c (ix2 (rowAt t r) l) := by
  unfold outsAt0
  rw [body_out, block_apply]
  show _ = result m c (ix3 (batchOf (rowAt t r)) (posOf (rowAt t r)) l)
  unfold result
  rw [ref_apply]
  simp only [blk0, blk1, blk2, blk3, blk4, blk5, blk6, blk7, blk8]

/-- Entry `j` of the output's block in the whole array. -/
theorem emb9 (t : Fin cfg0.N) (j : S1024x1024.Idx) :
    ((cfg0.win 9).blk t).view.emb j = (ix2 (rowAt t (j 0)) (j 1) : S32768x1024.Idx) := by
  obtain ⟨-, -, e0, e1⟩ := idx_rows t
  funext a; apply Fin.ext
  match a with
  | ⟨0, _⟩ => show win0_9.index t (0 : Fin 2) * 1024 + 1 * (j 0).val = 1024 * t.val + (j 0).val; omega
  | ⟨1, _⟩ => show win0_9.index t (1 : Fin 2) * 1024 + 1 * (j 1).val = (j 1).val; omega

/-- What a grid point writes back is its block of `merged`. -/
theorem flushed9 (c : Dev nD) (t : Fin cfg0.N) :
    (dats m 0 c).flushed 9 t = ((cfg0.win 9).blk t).view.read (Elt Ideal) (merged m c) := by
  show (cfg0.win 9).cut (grid0.coords t) ((dats m 0 c).after 9 t) = _
  rw [after0_9]
  funext j
  show outsAt0 m c t j = merged m c (((cfg0.win 9).blk t).view.emb j)
  rw [emb9]
  exact (congrArg (outsAt0 m c t) (funext fun a => by match a with | ⟨0, _⟩ => rfl | ⟨1, _⟩ => rfl)).trans
    (point_apply m c t (j 0) (j 1))

/-- Every entry of the array is in some grid point's block. -/
theorem covered9 (i : S32768x1024.Idx) :
    ∃ t : Fin cfg0.N, (cfg0.win 9).flush t = true ∧ i ∈ ((cfg0.win 9).blk t).view.set := by
  have h0 : (i 0).val < 32768 := (i 0).isLt
  let t : Fin cfg0.N := ⟨(i 0).val / 1024, show (i 0).val / 1024 < 32 by omega⟩
  let j : S1024x1024.Idx := ix2 ⟨(i 0).val % 1024, by omega⟩ (i 1)
  refine ⟨t, flush0_9 t, ?_⟩
  have h := ((cfg0.win 9).blk t).view.emb_mem_set j
  rw [emb9] at h
  have e : (ix2 (rowAt t (j 0)) (j 1) : S32768x1024.Idx) = i := by
    funext a; apply Fin.ext
    match a with
    | ⟨0, _⟩ => show 1024 * ((i 0).val / 1024) + (i 0).val % 1024 = (i 0).val; omega
    | ⟨1, _⟩ => rfl
  rwa [e] at h

/-- The call's array after the run. -/
theorem final9 (c : Dev nD) : (dats m 0 c).arrAt 9 cfg0.N = merged m c :=
  (dats m 0 c).arrAt_eq_of_cover 9 (merged m c) (fun t _ => flushed9 m c t) covered9

/-- The host line after the call splits batch and position again. -/
theorem tail_eq (c : Dev nD) :
    (Pipeline.afterTail₀ cfgs (dats m) 0 (V0 m) [hostOps1] c main_v12 : Vec Ideal S8x4096x1024 .f32) = result m c := by
  have h : (Pipeline.afterTail₀ cfgs (dats m) 0 (V0 m) [hostOps1] c main_v12 : Vec Ideal S8x4096x1024 .f32)
      = shapeCast _ (merged m c) shapeCasts_S32768x1024_S8x4096x1024 := by
    unfold Pipeline.afterTail₀
    simp only [hostOps1, List.flatten_cons, List.flatten_nil, List.append_nil]
    after_results
    have e := Pipeline.withArrays_arr (τ := τ) spec0 winFacts0.arr_inj c (V0 m c) (fun w => (dats m 0 c).arrAt w cfg0.N) 9
    refine congrArg (fun X => shapeCast _ X shapeCasts_S32768x1024_S8x4096x1024) (e.trans (final9 m c))
  rw [h]
  funext i
  idx_vars i
  pointwise [merged]
  refine congrArg (result m c) (funext fun a => Fin.ext ?_)
  have h1 := i1.isLt
  match a with
  | ⟨0, _⟩ => show (i0.val * 4096 + i1.val) / 4096 = i0.val; omega
  | ⟨1, _⟩ => show (i0.val * 4096 + i1.val) % 4096 = i1.val; omega
  | ⟨2, _⟩ => rfl

/-- Every run ends with the result at the reference's function of the arguments and the arguments unchanged. -/
theorem run : θ_run defs (onTc (τ := τ) (main (F := Ideal))) ⟨m, fun _ => 0, ρ⟩ (fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).2 main_v12 (Pipeline.mem_restRefs_of main_v12 (by decide) (by decide))).trans (tail_eq m c), h.2 c⟩)
    (θ_run_and (run_main m ρ) (unchanged m ρ))

end Cert.PostIdeal.Hand
-- ==== Proof.Proj.Model.lean ====
/- One row of the projection with its rotary embedding as plain arithmetic on the extended reals. -/
module

public import Idealize.ShloMosaic.Lib.Pointwise

@[expose] public section

noncomputable section

namespace Cert.ProjRows

open Idealize.ShloMosaic

/-- A row normalised by its root mean square, times the gains. -/
def rmsRow (X g : Fin 1024 → EReal) (j : Fin 1024) : EReal :=
  X j * Ideal.rsqrt (Ideal.div (∑ k, X k * X k) (Ideal.ofBits .f32 0x44800000#32) + Ideal.ofBits .f32 0x358637BD#32) * g j

/-- One column of the projection of a normalised row. -/
def projRow (X g : Fin 1024 → EReal) (w : Fin 1024 → EReal) : EReal := ∑ k, rmsRow X g k * w k

/-- A head's entries normalised by their root mean square, times the gains. -/
def headNorm (t g : Fin 64 → EReal) (d : Fin 64) : EReal :=
  t d * Ideal.rsqrt (Ideal.div (∑ k, t k * t k) (Ideal.ofBits .f32 0x42800000#32) + Ideal.ofBits .f32 0x358637BD#32) * g d

/-- The first half of a head's rotary embedding. -/
def turnLow (t : Fin 64 → EReal) (cos sin : Fin 32 → EReal) (p : Fin 32) : EReal :=
  t ⟨p.val, by omega⟩ * cos p - t ⟨32 + p.val, by omega⟩ * sin p

/-- The second half of a head's rotary embedding. -/
def turnHigh (t : Fin 64 → EReal) (cos sin : Fin 32 → EReal) (p : Fin 32) : EReal :=
  t ⟨32 + p.val, by omega⟩ * cos p + t ⟨p.val, by omega⟩ * sin p

end Cert.ProjRows
-- ==== Proof.Proj.Rows.lean ====
/- The kernel's payloads read as one row's arithmetic. -/
module

public import proofs.«01_k».proof.Proof.Gen.ProjIdeal.Skeleton
public import proofs.«01_k».proof.Proof.Proj.Model

@[expose] public section

set_option maxRecDepth 16384

noncomputable section

namespace Cert.ProjIdeal.Hand

open Cert.ProjIdeal Cert.ProjIdeal.Gen Cert.ProjRows
open Idealize.ShloMosaic Idealize.ShloMosaic.TcCoe

/-- Lanes normalised over the lanes that `B` groups with them, times the gains. -/
def groupNorm {n : ℕ} (t : Fin n → EReal) (B : Fin n → Fin n → EReal) (g : Fin n → EReal) (l : Fin n) : EReal :=
  t l * Ideal.rsqrt ((∑ k, t k * t k * B k l) * Ideal.ofBits .f32 0x3C800000#32 + Ideal.ofBits .f32 0x358637BD#32) * g l

/-- The lane that a rotation of 128 lanes by 64 brings to lane `l`. -/
def opposite (l : Fin 128) : Fin 128 := ⟨(l.val + 128 - 64) % 128, Nat.mod_lt _ (by decide)⟩

/-- A rotary embedding of 128 lanes, the second half of a head 64 lanes after the first. -/
def turn (t cos sin : Fin 128 → EReal) (l : Fin 128) : EReal := t l * cos l + t (opposite l) * sin l

section Payloads

variable (x : Vec Ideal S1x1024x1024 .f32) (g : Vec Ideal S1x1024 .f32) (w : Vec Ideal S1024x768 .bf16)
  (u : Vec Ideal S1024x768 .f32) (bd : Vec Ideal S256x256 .bf16) (gq : Vec Ideal S1x256 .f32)
  (cs sn : Vec Ideal S1024x128 .f32) (r : Fin 1024)

theorem row_payload (k : Fin 1024) :
    k0_pay1 x g (ix2 r k) = rmsRow (fun k => x (ix3 0 r k)) (fun k => g (ix2 0 k)) k := by
  unfold rmsRow
  pointwise [k0_pay1]

theorem first_payload (c : Fin 768) :
    k0_pay2 x g w (ix2 r c) = projRow (fun k => x (ix3 0 r k)) (fun k => g (ix2 0 k)) (fun k => w (ix2 k c)) := by
  unfold projRow
  pointwise [k0_pay2]
  simp only [row_payload]

theorem second_payload (c : Fin 768) :
    k0_pay3 x g w (ix2 r c) = projRow (fun k => x (ix3 0 r k)) (fun k => g (ix2 0 k)) (fun k => w (ix2 k c)) := by
  unfold projRow
  pointwise [k0_pay3]
  simp only [row_payload]

theorem norm_payload (l : Fin 256) :
    k0_pay8 (k0_pay6 x g w) (k0_pay7 x g w bd) gq (ix2 r l)
      = groupNorm (fun k : Fin 256 => k0_pay2 x g w (ix2 r ⟨k.val, by omega⟩)) (fun k l => bd (ix2 k l)) (fun l => gq (ix2 0 l)) l := by
  unfold groupNorm
  pointwise [k0_pay8, k0_pay7, k0_pay6]

theorem norm_payload' (l : Fin 256) :
    k0_pay11 u bd gq (ix2 r l)
      = groupNorm (fun k : Fin 256 => u (ix2 r ⟨256 + k.val, by omega⟩)) (fun k l => bd (ix2 k l)) (fun l => gq (ix2 0 l)) l := by
  unfold groupNorm
  pointwise [k0_pay11]

theorem turn_payload0 (a b : Vec Ideal S1024x256 .f32) (l : Fin 128) :
    k0_pay9 (k0_pay4 cs) (k0_pay5 sn) a b gq (ix3 0 r l)
      = turn (fun l => k0_pay8 a b gq (ix2 r ⟨l.val, by omega⟩)) (fun l => cs (ix2 r l)) (fun l => sn (ix2 r l)) l := by
  unfold turn opposite
  pointwise [k0_pay9, k0_pay4, k0_pay5]

theorem turn_payload1 (a b : Vec Ideal S1024x256 .f32) (l : Fin 128) :
    k0_pay10 (k0_pay4 cs) (k0_pay5 sn) a b gq (ix3 0 r l)
      = turn (fun l => k0_pay8 a b gq (ix2 r ⟨128 + l.val, by omega⟩)) (fun l => cs (ix2 r l)) (fun l => sn (ix2 r l)) l := by
  unfold turn opposite
  pointwise [k0_pay10, k0_pay4, k0_pay5]

theorem turn_payload2 (l : Fin 128) :
    k0_pay14 (k0_pay5 sn) (k0_pay12 u bd gq) (k0_pay13 u (k0_pay4 cs) bd gq) (ix3 0 r l)
      = turn (fun l => k0_pay11 u bd gq (ix2 r ⟨l.val, by omega⟩)) (fun l => cs (ix2 r l)) (fun l => sn (ix2 r l)) l := by
  unfold turn opposite
  pointwise [k0_pay14, k0_pay13, k0_pay12, k0_pay4, k0_pay5]

theorem turn_payload3 (a : Vec Ideal S1024x256 .f32) (l : Fin 128) :
    k0_pay15 (k0_pay4 cs) (k0_pay5 sn) a (ix3 0 r l)
      = turn (fun l => a (ix2 r ⟨128 + l.val, by omega⟩)) (fun l => cs (ix2 r l)) (fun l => sn (ix2 r l)) l := by
  unfold turn opposite
  pointwise [k0_pay15, k0_pay4, k0_pay5]

theorem key_payload (bd' : Vec Ideal S128x128 .bf16) (gk : Vec Ideal S1x128 .f32) (l : Fin 128) :
    k0_pay16 u (k0_pay4 cs) (k0_pay5 sn) bd' gk (ix3 0 r l)
      = turn (groupNorm (fun k : Fin 128 => u (ix2 r ⟨512 + k.val, by omega⟩)) (fun k l => bd' (ix2 k l)) (fun l => gk (ix2 0 l)))
          (fun l => cs (ix2 r l)) (fun l => sn (ix2 r l)) l := by
  unfold turn opposite groupNorm
  pointwise [k0_pay16, k0_pay4, k0_pay5]

theorem plain_key_payload (l : Fin 128) :
    k0_pay17 u cs sn (ix3 0 r l)
      = turn (fun l => u (ix2 r ⟨640 + l.val, by omega⟩)) (fun l => cs (ix2 r l)) (fun l => sn (ix2 r l)) l := by
  unfold turn opposite
  pointwise [k0_pay17]

theorem plain_payload0 (l : Fin 128) :
    k0_pay18 u cs sn (ix3 0 r l)
      = turn (fun l => u (ix2 r ⟨l.val, by omega⟩)) (fun l => cs (ix2 r l)) (fun l => sn (ix2 r l)) l := by
  unfold turn opposite
  pointwise [k0_pay18]

theorem plain_payload1 (l : Fin 128) :
    k0_pay20 (k0_pay19 u cs sn) (ix3 0 r l)
      = turn (fun l => u (ix2 r ⟨128 + l.val, by omega⟩)) (fun l => cs (ix2 r l)) (fun l => sn (ix2 r l)) l := by
  unfold turn opposite
  pointwise [k0_pay20, k0_pay19]

theorem plain_payload2 (l : Fin 128) :
    k0_pay21 u cs sn (ix3 0 r l)
      = turn (fun l => u (ix2 r ⟨256 + l.val, by omega⟩)) (fun l => cs (ix2 r l)) (fun l => sn (ix2 r l)) l := by
  unfold turn opposite
  pointwise [k0_pay21]

theorem plain_payload3 (l : Fin 128) :
    k0_pay22 u cs sn (ix3 0 r l)
      = turn (fun l => u (ix2 r ⟨384 + l.val, by omega⟩)) (fun l => cs (ix2 r l)) (fun l => sn (ix2 r l)) l := by
  unfold turn opposite
  pointwise [k0_pay22]

end Payloads

end Cert.ProjIdeal.Hand
-- ==== Proof.Proj.Heads.lean ====
/- Lanes to heads: the order in which the kernel lays heads side by side in lanes, its grouped norm as a head's norm,
   and its rotation of lanes as the rotary embedding of a head. -/
module

public import proofs.«01_k».proof.Proof.Proj.Rows

@[expose] public section

noncomputable section

namespace Cert.ProjRows

open Cert.ProjIdeal.Hand
open Idealize.ShloMosaic

/-- The head a lane belongs to, counted in the lanes' order: two heads share 128 lanes. -/
def group (l : ℕ) : ℕ := 2 * (l / 128) + l / 32 % 2

/-- The entry of its head that a lane holds. -/
def place (l : ℕ) : ℕ := 32 * (l / 64 % 2) + l % 32

theorem place_lt (l : ℕ) : place l < 64 := by unfold place; omega

/-- Lanes as pairs of a head and an entry. -/
def lanes {n H : ℕ} (m : ℕ) (hn : n = 128 * m) (hH : H = 2 * m) : Fin n ≃ Fin H × Fin 64 where
  toFun l := (⟨group l.val, by unfold group; omega⟩, ⟨place l.val, place_lt _⟩)
  invFun p := ⟨128 * (p.1.val / 2) + 64 * (p.2.val / 32) + 32 * (p.1.val % 2) + p.2.val % 32, by omega⟩
  left_inv l := by apply Fin.ext; simp only [group, place]; omega
  right_inv p := by
    refine Prod.ext (Fin.ext ?_) (Fin.ext ?_)
    · simp only [group]; omega
    · simp only [place]; omega

/-- A sum over the lanes kept by head is a sum over that head's entries. -/
theorem sum_group {n H : ℕ} (e : Fin n ≃ Fin H × Fin 64) (f : Fin H → Fin 64 → EReal) (h : Fin H) :
    ∑ k, f (e k).1 (e k).2 * (if (e k).1 = h then 1 else 0) = ∑ d, f h d := by
  rw [Equiv.sum_comp e (fun p => f p.1 p.2 * (if p.1 = h then 1 else 0)), Fintype.sum_prod_type]
  rw [Finset.sum_eq_single h (fun g _ hg => by simp [hg]) (fun hh => absurd (Finset.mem_univ h) hh)]
  simp

/-- The word 0x42800000 is 64. -/
theorem word_64 : Ideal.ofBits .f32 0x42800000#32 = ((64 : ℝ) : EReal) := by
  simp [Ideal.ofBits, Ideal.ieee, -EReal.coe_mul]; norm_num

/-- The word 0x3C800000 is 1/64. -/
theorem word_inv_64 : Ideal.ofBits .f32 0x3C800000#32 = ((1 / 64 : ℝ) : EReal) := by
  simp [Ideal.ofBits, Ideal.ieee, -EReal.coe_mul]; norm_num

theorem mul_inv_64 (x : EReal) : x * Ideal.ofBits .f32 0x3C800000#32 = Ideal.div x (Ideal.ofBits .f32 0x42800000#32) := by
  rw [word_64, word_inv_64, Ideal.div_coe (by norm_num)]

/-- Lanes of heads normalised in groups are heads normalised. -/
theorem groupNorm_eq {n H : ℕ} (e : Fin n ≃ Fin H × Fin 64) (t : Fin H → Fin 64 → EReal) (g : Fin 64 → EReal)
    (T G : Fin n → EReal) (B : Fin n → Fin n → EReal) (hT : ∀ k, T k = t (e k).1 (e k).2) (hG : ∀ k, G k = g (e k).2)
    (hB : ∀ k l, B k l = if (e k).1 = (e l).1 then 1 else 0) (l : Fin n) :
    groupNorm T B G l = headNorm (t (e l).1) g (e l).2 := by
  unfold groupNorm headNorm
  simp only [hT, hG, hB, mul_inv_64]
  rw [sum_group e (fun h d => t h d * t h d) (e l).1]

/-- The rotation on a lane of a head's first half. -/
theorem turn_low (h : Fin 2) (t : Fin 64 → EReal) (C S : Fin 32 → EReal) (T cos sin : Fin 128 → EReal)
    (h1 : ∀ p : Fin 32, T ⟨32 * h.val + p.val, by omega⟩ = t ⟨p.val, by omega⟩)
    (h2 : ∀ p : Fin 32, T ⟨64 + 32 * h.val + p.val, by omega⟩ = t ⟨32 + p.val, by omega⟩) (p : Fin 32)
    (hc : cos ⟨32 * h.val + p.val, by omega⟩ = C p) (hs : sin ⟨32 * h.val + p.val, by omega⟩ = -S p) :
    turn T cos sin ⟨32 * h.val + p.val, by omega⟩ = turnLow t C S p := by
  have ho : opposite ⟨32 * h.val + p.val, by omega⟩ = ⟨64 + 32 * h.val + p.val, by omega⟩ := by
    apply Fin.ext; simp only [opposite]; omega
  unfold turn turnLow
  rw [ho, h1, h2, hc, hs, mul_neg, sub_eq_add_neg]

/-- The rotation on a lane of a head's second half. -/
theorem turn_high (h : Fin 2) (t : Fin 64 → EReal) (C S : Fin 32 → EReal) (T cos sin : Fin 128 → EReal)
    (h1 : ∀ p : Fin 32, T ⟨32 * h.val + p.val, by omega⟩ = t ⟨p.val, by omega⟩)
    (h2 : ∀ p : Fin 32, T ⟨64 + 32 * h.val + p.val, by omega⟩ = t ⟨32 + p.val, by omega⟩) (p : Fin 32)
    (hc : cos ⟨64 + 32 * h.val + p.val, by omega⟩ = C p) (hs : sin ⟨64 + 32 * h.val + p.val, by omega⟩ = S p) :
    turn T cos sin ⟨64 + 32 * h.val + p.val, by omega⟩ = turnHigh t C S p := by
  have ho : opposite ⟨64 + 32 * h.val + p.val, by omega⟩ = ⟨32 * h.val + p.val, by omega⟩ := by
    apply Fin.ext; simp only [opposite]; omega
  unfold turn turnHigh
  rw [ho, h1, h2, hc, hs]

end Cert.ProjRows
-- ==== Proof.Proj.Words.lean ====
/- The words of the constant tables in the projection call's host code: positions, the order of the weights' columns,
   the order of the gains, and the matrix that groups lanes by head. -/
module

public import proofs.«01_k».proof.ProjIdeal
public import proofs.«01_k».proof.Proof.Proj.Heads

@[expose] public section

set_option maxRecDepth 16384

noncomputable section

namespace Cert.ProjIdeal.Hand

open Cert.ProjIdeal Cert.ProjRows
open Idealize.ShloMosaic Idealize.ShloMosaic.TcCoe

/-- A word holds a natural number in single precision. -/
def holdsNat (w : BitVec 32) (n : ℕ) : Prop :=
  (w.toNat = 0 ∧ n = 0) ∨ (w.toNat / 2 ^ 31 = 0 ∧ 0 < w.toNat / 2 ^ 23 ∧ w.toNat / 2 ^ 23 ≤ 150
    ∧ 2 ^ 23 + w.toNat % 2 ^ 23 = n * 2 ^ (150 - w.toNat / 2 ^ 23))

instance (w : BitVec 32) (n : ℕ) : Decidable (holdsNat w n) := by unfold holdsNat; infer_instance

theorem holdsNat_value {w : BitVec 32} {n : ℕ} (h : holdsNat w n) : Ideal.ofBits .f32 w = ((n : ℝ) : EReal) := by
  have hlt := w.isLt
  have e1 : (w.extractLsb' 23 8).toNat = w.toNat / 2 ^ 23 % 2 ^ 8 := by simp [BitVec.extractLsb'_toNat, Nat.shiftRight_eq_div_pow]
  have e2 : (w.extractLsb' 0 23).toNat = w.toNat % 2 ^ 23 := by simp [BitVec.extractLsb'_toNat]
  have e3 : (w.extractLsb' 31 1).toNat = w.toNat / 2 ^ 31 % 2 := by simp [BitVec.extractLsb'_toNat, Nat.shiftRight_eq_div_pow]
  rcases h with ⟨hw, rfl⟩ | ⟨hs, hpos, hle, hn⟩
  · obtain rfl : w = 0#32 := BitVec.eq_of_toNat_eq hw
    simp [Ideal.ofBits, Ideal.ieee]
  · have hs' : (w.extractLsb' (8 + 23) 1 == 1#1) = false := by
      rw [beq_eq_false_iff_ne]
      intro hc
      have := congrArg BitVec.toNat hc
      rw [show 8 + 23 = 31 from rfl, e3, hs] at this
      exact absurd this (by decide)
    have hex : w.toNat / 2 ^ 23 % 2 ^ 8 = w.toNat / 2 ^ 23 := Nat.mod_eq_of_lt (by omega)
    generalize hE : w.toNat / 2 ^ 23 = E at *
    generalize w.toNat % 2 ^ 23 = T at *
    unfold Ideal.ofBits Ideal.ieee
    simp only [hs', e1, e2, hex]
    rw [if_neg (by omega), if_neg (by omega)]
    congr 1
    rw [hn]
    have hz : ((E : ℤ) - (2 ^ (8 - 1) - 1) - (23 : ℕ)) = -((150 - E : ℕ) : ℤ) := by omega
    rw [hz, zpow_neg, zpow_natCast]
    push_cast
    simp

theorem rows_word : ∀ i : Fin 4096, holdsNat (lit3 i) (i.val / 64) := by decide +kernel
theorem cols_word : ∀ i : Fin 4096, holdsNat (lit4 i) (i.val % 64) := by decide +kernel
theorem steps_word : ∀ i : Fin 4096, holdsNat (lit5 i) i.val := by decide +kernel

/-- The weight column that the kernel's column `c` reads: the queries' heads `j` and `j + 4` share 128 lanes, the keys'
    two heads share 128 lanes, and the values keep their order. -/
def column (c : ℕ) : ℕ :=
  if c < 512 then 64 * (c / 128 + 4 * (c / 32 % 2)) + place c
  else if c < 640 then 512 + 64 * (c / 32 % 2) + place c
  else if c < 768 then 1280 + 64 * (c / 32 % 2) + place c
  else if c < 1280 then 768 + 64 * ((c - 768) / 128 + 4 * (c / 32 % 2)) + place c
  else if c < 1408 then c - 640
  else c

theorem column_word : ∀ c : Fin 1536, min (lit0 c).toInt.toNat 1535 = column c.val := by decide +kernel
theorem place_word : ∀ l : Fin 128, min (lit1 l).toInt.toNat 63 = place l.val := by decide +kernel

end Cert.ProjIdeal.Hand
-- ==== Proof.Proj.Tables.lean ====
/- The constant tables of the projection call's host code, read as the reference's positions and angles. -/
module

public import proofs.«01_k».proof.Proof.Proj.Words
public import proofs.«01_k».proof.Proof.Gen.ProjReferenceIdeal.Read

@[expose] public section

set_option maxRecDepth 16384

noncomputable section

namespace Cert.ProjIdeal.Hand

open Cert.ProjIdeal Cert.ProjRows Cert.ProjReferenceIdeal.Read
open Idealize.ShloMosaic Idealize.ShloMosaic.TcCoe

theorem rowMajor_line {n : ℕ} (s : Fin n) : ((⟨1, ![n]⟩ : Shape).rowMajor (ix1 s)) = ⟨s.val, by simp [Shape.numel]⟩ := Fin.ext (Shape.rowMajor_val_one _)

/-- A natural number below 4096 as a signed word. -/
theorem nat_word (n : ℕ) (h : n < 4096) : ((BitVec.ofNat 32 n).toInt : ℝ) = n := by
  have : (BitVec.ofNat 32 n).toInt = n := by
    rw [BitVec.toInt_eq_toNat_cond, BitVec.toNat_ofNat]; omega
  rw [this]; simp

/-- The image row of each position is the reference's. -/
theorem rows_table : (fun i => FloatOps.ofBits (F := Ideal) .f32 (lit3 (S4096.rowMajor i)) : Vec Ideal S4096 .f32) = val_main_v4 (F := Ideal) := by
  funext i
  idx_vars i
  have hw := holdsNat_value (rows_word ⟨i0.val, i0.isLt⟩)
  have hi := i0.isLt
  refine (congrArg (fun k => Ideal.ofBits .f32 (lit3 k)) (rowMajor_line i0)).trans (hw.trans ?_)
  rw [← nat_word (i0.val / 64) (by omega)]
  pointwise [val_main_v4, val_main_v3, val_main_v2, val_main_v1]
  rfl

theorem cols_table : (fun i => FloatOps.ofBits (F := Ideal) .f32 (lit4 (S4096.rowMajor i)) : Vec Ideal S4096 .f32) = val_main_v8 (F := Ideal) := by
  funext i
  idx_vars i
  have hw := holdsNat_value (cols_word ⟨i0.val, i0.isLt⟩)
  have hi := i0.isLt
  refine (congrArg (fun k => Ideal.ofBits .f32 (lit4 k)) (rowMajor_line i0)).trans (hw.trans ?_)
  rw [← nat_word (i0.val % 64) (by omega)]
  pointwise [val_main_v8, val_main_v7, val_main_v6, val_main_v5]
  rfl

theorem steps_table : (fun i => FloatOps.ofBits (F := Ideal) .f32 (lit5 (S4096.rowMajor i)) : Vec Ideal S4096 .f32) = val_main_v0 (F := Ideal) := by
  funext i
  idx_vars i
  have hw := holdsNat_value (steps_word ⟨i0.val, i0.isLt⟩)
  refine (congrArg (fun k => Ideal.ofBits .f32 (lit5 k)) (rowMajor_line i0)).trans (hw.trans ?_)
  rw [← nat_word i0.val i0.isLt]
  pointwise [val_main_v0]
  rfl

end Cert.ProjIdeal.Hand
-- ==== Proof.Proj.Grouping.lean ====
/- The matrix that groups lanes by head, read off the words of its table chunk by chunk. -/
module

public import proofs.«01_k».proof.ProjIdeal
public import proofs.«01_k».proof.Proof.Proj.Heads
public import Idealize.ShloMosaic.Lib.IdealHost

@[expose] public section

set_option maxRecDepth 16384

noncomputable section

namespace Cert.ProjIdeal.Hand

open Cert.ProjIdeal Cert.ProjRows
open Idealize.ShloMosaic Idealize.ShloMosaic.TcCoe

/-- The grouping matrix's words: chunk `c` is half a row, and holds one's word where row and lane share a head. -/
def groupBit (c l : ℕ) : BitVec 16 := if group (c / 2) = group (128 * (c % 2) + l) then 0x3F80#16 else 0x0000#16

/-- The chunks of the table, of three kinds: nothing shared, the first head of the half, the second head of the half. -/
theorem chunk_none : ∀ l : Fin 128, lit2t0_1 l.val = 0x0000#16 := by decide +kernel
theorem chunk_first : ∀ l : Fin 128, lit2t0_0 l.val = if l.val / 32 % 2 = 0 then 0x3F80#16 else 0x0000#16 := by decide +kernel
theorem chunk_second : ∀ l : Fin 128, lit2t0_64 l.val = if l.val / 32 % 2 = 1 then 0x3F80#16 else 0x0000#16 := by decide +kernel

theorem mod_chunk {f : ℕ → BitVec 16} (h : ∀ i, f (i % 128) = f i) {g : ℕ → BitVec 16} (hf : ∀ l : Fin 128, f l.val = g l.val) (i : ℕ) :
    f i = g (i % 128) := (h i).symm.trans (hf ⟨i % 128, Nat.mod_lt _ (by decide)⟩)

theorem kind_none (c i : ℕ) (h : group (c / 2) / 2 ≠ c % 2) : lit2t0_1 i = groupBit c (i % 128) := by
  rw [mod_chunk (f := lit2t0_1) (g := fun _ => 0x0000#16) (fun i => by unfold lit2t0_1; rw [Nat.mod_mod]) chunk_none i]
  unfold groupBit
  rw [if_neg]
  intro hc
  rw [hc] at h
  unfold group at h
  omega

theorem kind_first (c i : ℕ) (h : group (c / 2) = 2 * (c % 2)) : lit2t0_0 i = groupBit c (i % 128) := by
  rw [mod_chunk (f := lit2t0_0) (g := fun l => if l / 32 % 2 = 0 then 0x3F80#16 else 0x0000#16) (fun i => by unfold lit2t0_0; rw [Nat.mod_mod]) chunk_first i]
  unfold groupBit
  rw [h]
  refine if_congr ?_ rfl rfl
  unfold group
  omega

theorem kind_second (c i : ℕ) (h : group (c / 2) = 2 * (c % 2) + 1) : lit2t0_64 i = groupBit c (i % 128) := by
  rw [mod_chunk (f := lit2t0_64) (g := fun l => if l / 32 % 2 = 1 then 0x3F80#16 else 0x0000#16) (fun i => by unfold lit2t0_64; rw [Nat.mod_mod]) chunk_second i]
  unfold groupBit
  rw [h]
  refine if_congr ?_ rfl rfl
  unfold group
  omega

set_option maxHeartbeats 4000000 in
theorem quarter0 (i : ℕ) : lit2t1_0 i = groupBit (128 * 0 + i / 128 % 128) (i % 128) := by
  unfold lit2t1_0
  have hq : i / 128 % 128 < 128 := Nat.mod_lt _ (by decide)
  generalize i / 128 % 128 = q at hq ⊢
  interval_cases q <;> first
    | (refine Eq.trans ?_ (kind_none _ i (by decide)); rfl)
    | (refine Eq.trans ?_ (kind_first _ i (by decide)); rfl)
    | (refine Eq.trans ?_ (kind_second _ i (by decide)); rfl)

set_option maxHeartbeats 4000000 in
theorem quarter1 (i : ℕ) : lit2t1_1 i = groupBit (128 * 1 + i / 128 % 128) (i % 128) := by
  unfold lit2t1_1
  have hq : i / 128 % 128 < 128 := Nat.mod_lt _ (by decide)
  generalize i / 128 % 128 = q at hq ⊢
  interval_cases q <;> first
    | (refine Eq.trans ?_ (kind_none _ i (by decide)); rfl)
    | (refine Eq.trans ?_ (kind_first _ i (by decide)); rfl)
    | (refine Eq.trans ?_ (kind_second _ i (by decide)); rfl)

set_option maxHeartbeats 4000000 in
theorem quarter2 (i : ℕ) : lit2t1_2 i = groupBit (128 * 2 + i / 128 % 128) (i % 128) := by
  unfold lit2t1_2
  have hq : i / 128 % 128 < 128 := Nat.mod_lt _ (by decide)
  generalize i / 128 % 128 = q at hq ⊢
  interval_cases q <;> first
    | (refine Eq.trans ?_ (kind_none _ i (by decide)); rfl)
    | (refine Eq.trans ?_ (kind_first _ i (by decide)); rfl)
    | (refine Eq.trans ?_ (kind_second _ i (by decide)); rfl)

set_option maxHeartbeats 4000000 in
theorem quarter3 (i : ℕ) : lit2t1_3 i = groupBit (128 * 3 + i / 128 % 128) (i % 128) := by
  unfold lit2t1_3
  have hq : i / 128 % 128 < 128 := Nat.mod_lt _ (by decide)
  generalize i / 128 % 128 = q at hq ⊢
  interval_cases q <;> first
    | (refine Eq.trans ?_ (kind_none _ i (by decide)); rfl)
    | (refine Eq.trans ?_ (kind_first _ i (by decide)); rfl)
    | (refine Eq.trans ?_ (kind_second _ i (by decide)); rfl)

/-- The table's entry for two lanes. -/
theorem group_word (i : ℕ) (hi : i < 65536) : lit2t i = groupBit (i / 128) (i % 128) := by
  unfold lit2t
  have hq : i / 16384 < 4 := by omega
  have e : i / 128 = 128 * (i / 16384) + i / 128 % 128 := by omega
  rw [e]
  generalize hk : i / 16384 = k at hq e ⊢
  interval_cases k
  · exact (quarter0 i).trans (by simp)
  · exact (quarter1 i).trans (by simp)
  · exact (quarter2 i).trans (by simp)
  · exact (quarter3 i).trans (by simp)

/-- The grouping matrix, entry by entry: one where two lanes share a head, zero elsewhere. -/
theorem group_table (k l : Fin 256) :
    FloatOps.ofBits (F := Ideal) .bf16 (lit2 (S256x256.rowMajor (ix2 k l))) = if group k.val = group l.val then (1 : EReal) else 0 := by
  have hr : (S256x256.rowMajor (ix2 k l)).val = 256 * k.val + l.val := by
    refine (Shape.rowMajor_val_two _).trans ?_
    show k.val * 256 + l.val = _
    omega
  have h : lit2 (S256x256.rowMajor (ix2 k l)) = groupBit ((256 * k.val + l.val) / 128) ((256 * k.val + l.val) % 128) := by
    rw [← group_word _ (by omega), ← hr]
  rw [h]
  unfold groupBit
  rw [show (256 * k.val + l.val) / 128 / 2 = k.val by omega,
    show 128 * ((256 * k.val + l.val) / 128 % 2) + (256 * k.val + l.val) % 128 = l.val by omega]
  split
  · exact Idealize.ShloMosaic.Ideal.ofBits_one_bf16
  · exact Idealize.ShloMosaic.Ideal.ofBits_zero_bf16

end Cert.ProjIdeal.Hand
-- ==== Proof.Proj.Gather.lean ====
/- The projection call's gathers, read at an index. -/
module

public import proofs.«01_k».proof.Proof.Proj.Rows
public import Idealize.ShloMosaic.Lib.ValueIdxCore

@[expose] public section

set_option maxRecDepth 16384

noncomputable section

namespace Cert.ProjIdeal.Hand

open Cert.ProjIdeal Cert.ProjIdeal.Gen
open Idealize.ShloMosaic Idealize.ShloMosaic.TcCoe

variable {α : Type}

/-- Columns taken in the order of a list of column numbers. -/
theorem gather_columns (x : S1024x1536.Idx → α) (idx : IVec S1536x1 32) (k : Fin 1024) (c : Fin 1536) :
    Host.gather gather_S1024x1536_S1536x1_S1024x1536_0_1_n_n_1_1_10241 x idx (ix2 k c)
      = x (ix2 k ⟨min (idx (ix2 c 0)).toInt.toNat 1535, by omega⟩) := by
  unfold Host.gather
  congr 1
  funext a
  refine Fin.ext ?_
  generalize hd : gather_S1024x1536_S1536x1_S1024x1536_0_1_n_n_1_1_10241 = d
  match a with
  | ⟨0, _⟩ =>
    show d.start (ix2 k c) idx 0 + d.batchCoord (ix2 k c) 0 + d.offCoord (ix2 k c) 0 = k.val
    subst hd
    rw [GatherDims.batchCoord_eq_zero _ _ _ List.not_mem_nil]
    unfold GatherDims.start
    rw [dif_neg (show (0 : Fin 2) ∉ gather_S1024x1536_S1536x1_S1024x1536_0_1_n_n_1_1_10241.startIndexMap from fun h => absurd (List.mem_singleton.mp h) (by decide))]
    simp only [Nat.zero_add, Nat.add_zero]
    unfold GatherDims.offCoord
    rw [dif_pos (show (0 : Fin 2) ∈ gather_S1024x1536_S1536x1_S1024x1536_0_1_n_n_1_1_10241.sKept from (GatherDims.mem_sKept _ _).mpr ⟨fun h => absurd (List.mem_singleton.mp h) (by decide), List.not_mem_nil⟩)]
    rfl
  | ⟨1, _⟩ =>
    show d.start (ix2 k c) idx 1 + d.batchCoord (ix2 k c) 1 + d.offCoord (ix2 k c) 1 = min (idx (ix2 c 0)).toInt.toNat 1535
    subst hd
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x1536_S1536x1_S1024x1536_0_1_n_n_1_1_10241.startIndexMap from List.mem_singleton.mpr rfl)]
    have hsi : gather_S1024x1536_S1536x1_S1024x1536_0_1_n_n_1_1_10241.siIdx (ix2 k c) ⟨List.idxOf (1 : Fin 2) gather_S1024x1536_S1536x1_S1024x1536_0_1_n_n_1_1_10241.startIndexMap,
        List.idxOf_lt_length_iff.2 (List.mem_singleton.mpr rfl)⟩ = ix2 c 0 := by
      funext b
      refine Fin.ext ?_
      match b with
      | ⟨0, _⟩ => rfl
      | ⟨1, _⟩ => rfl
    exact congrArg (fun i => min (idx i).toInt.toNat 1535) hsi

/-- Entries taken in the order of a list of positions. -/
theorem gather_entries (x : S64.Idx → α) (idx : IVec S128x1 32) (l : Fin 128) :
    Host.gather gather_S64_S128x1_S128_n_0_n_n_0_1_1 x idx (ix1 l) = x (ix1 ⟨min (idx (ix2 l 0)).toInt.toNat 63, by omega⟩) := by
  unfold Host.gather
  congr 1
  funext a
  obtain rfl : a = 0 := Subsingleton.elim _ _
  refine Fin.ext ?_
  generalize hd : gather_S64_S128x1_S128_n_0_n_n_0_1_1 = d
  show d.start (ix1 l) idx 0 + d.batchCoord (ix1 l) 0 + d.offCoord (ix1 l) 0 = min (idx (ix2 l 0)).toInt.toNat 63
  subst hd
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S64_S128x1_S128_n_0_n_n_0_1_1.startIndexMap from List.mem_singleton.mpr rfl)]
  have hsi : gather_S64_S128x1_S128_n_0_n_n_0_1_1.siIdx (ix1 l) ⟨List.idxOf (0 : Fin 1) gather_S64_S128x1_S128_n_0_n_n_0_1_1.startIndexMap,
      List.idxOf_lt_length_iff.2 (List.mem_singleton.mpr rfl)⟩ = ix2 l 0 := by
    funext b
    refine Fin.ext ?_
    match b with
    | ⟨0, _⟩ => rfl
    | ⟨1, _⟩ => rfl
  exact congrArg (fun i => min (idx i).toInt.toNat 63) hsi

end Cert.ProjIdeal.Hand
-- ==== Proof.Proj.Host.lean ====
/- What the projection call's host code hands the call, entry by entry: the weights' columns in the kernel's order, the
   gains lane by lane, the grouping matrix, and the cosines and sines of the reference's angles. -/
module

public import proofs.«01_k».proof.Proof.Gen.ProjIdeal.Frame
public import Idealize.ShloMosaic.Lib.Pipeline.Value
public import proofs.«01_k».proof.Proof.Proj.Tables
public import proofs.«01_k».proof.Proof.Proj.Grouping
public import proofs.«01_k».proof.Proof.Proj.Gather

@[expose] public section

set_option maxRecDepth 16384

noncomputable section

namespace Cert.ProjIdeal.Hand

open Cert.ProjIdeal Cert.ProjIdeal.Gen Cert.ProjRows
open Cert.ProjReferenceIdeal.Read
open Idealize.ShloMosaic Idealize.ShloMosaic.TcCoe Idealize.SL.Sem

variable (m : (ℓ : Loc nD τ sig) → Buf (Elt Ideal) ℓ)

/-- The arguments. -/
abbrev a0 (c : Dev nD) : Vec Ideal S8x4096x1024 .f32 := m ((c : Thread nD τ).loc main_arg0)
abbrev a1 (c : Dev nD) : Vec Ideal S1x1024 .f32 := m ((c : Thread nD τ).loc main_arg1)
abbrev a2 (c : Dev nD) : Vec Ideal S1x1024x1536 .f32 := m ((c : Thread nD τ).loc main_arg2)
abbrev a3 (c : Dev nD) : Vec Ideal S1x64 .f32 := m ((c : Thread nD τ).loc main_arg3)
abbrev a4 (c : Dev nD) : Vec Ideal S1x64 .f32 := m ((c : Thread nD τ).loc main_arg4)

/-! ## The rotary tables -/

/-- Angles of the two image axes from row and column numbers. -/
def axialOf (R C : FVec Ideal S4096 .f32) : FVec Ideal S4096x32 .f32 :=
  concatenate S4096x32 1
    [⟨S4096x16, mulf (F := Ideal) (φ := .f32) (broadcastInDim S4096x16 ![0, 1] bcast_S4096x1_S4096x16_0_1 (broadcastInDim S4096x1 ![0] bcast_S4096_S4096x1_0 R))
        (broadcastInDim S4096x16 ![0, 1] bcast_S1x16_S4096x16_0_1 (broadcastInDim S1x16 ![1] bcast_S16_S1x16_1 (val_main_v14 (F := Ideal))))⟩,
      ⟨S4096x16, mulf (F := Ideal) (φ := .f32) (broadcastInDim S4096x16 ![0, 1] bcast_S4096x1_S4096x16_0_1 (broadcastInDim S4096x1 ![0] bcast_S4096_S4096x1_0 C))
        (broadcastInDim S4096x16 ![0, 1] bcast_S1x16_S4096x16_0_1 (broadcastInDim S1x16 ![1] bcast_S16_S1x16_1 (val_main_v14 (F := Ideal))))⟩]
    concatenates_S4096x16_S4096x16_S4096x32_d1

/-- Angles of the sequence from positions. -/
def linearOf (P : FVec Ideal S4096 .f32) : FVec Ideal S4096x32 .f32 :=
  mulf (F := Ideal) (φ := .f32) (broadcastInDim S4096x32 ![0, 1] bcast_S4096x1_S4096x32_0_1 (broadcastInDim S4096x1 ![0] bcast_S4096_S4096x1_0 P))
    (broadcastInDim S4096x32 ![0, 1] bcast_S1x32_S4096x32_0_1 (broadcastInDim S1x32 ![1] bcast_S32_S1x32_1 (val_main_v31 (F := Ideal))))

/-- A table repeated on the lanes of two heads' halves. -/
def repeated (X : FVec Ideal S4096x32 .f32) : FVec Ideal S4096x128 .f32 :=
  shapeCast _ (broadcastInDim S1x4096x4x32 ![0, 1, 2, 3] bcast_S1x4096x1x32_S1x4096x4x32_0_1_2_3
    (shapeCast S1x4096x1x32 X shapeCasts_S4096x32_S1x4096x1x32)) shapeCasts_S1x4096x4x32_S4096x128

/-- A table repeated with its sign turned on the first halves. -/
def signed (X : FVec Ideal S4096x32 .f32) : FVec Ideal S4096x128 .f32 :=
  concatenate S4096x128 1 [⟨S4096x32, Host.negf (F := Ideal) (φ := .f32) X⟩, ⟨S4096x32, Host.negf (F := Ideal) (φ := .f32) X⟩, ⟨S4096x32, X⟩, ⟨S4096x32, X⟩]
    concatenates_S4096x32_S4096x32_S4096x32_S4096x32_S4096x128_d1

/-- The host code's angles are the reference's. -/
theorem axial_eq : axialOf (fun i => FloatOps.ofBits (F := Ideal) .f32 (lit3 (S4096.rowMajor i))) (fun i => FloatOps.ofBits (F := Ideal) .f32 (lit4 (S4096.rowMajor i)))
    = val_main_v25 (F := Ideal) := (congrArg₂ axialOf rows_table cols_table).trans rfl
theorem linear_eq : linearOf (fun i => FloatOps.ofBits (F := Ideal) .f32 (lit5 (S4096.rowMajor i))) = val_main_v36 (F := Ideal) :=
  (congrArg linearOf steps_table).trans rfl

theorem repeated_low (X : FVec Ideal S4096x32 .f32) (s : Fin 4096) (h : Fin 2) (p : Fin 32) :
    repeated X (ix2 s ⟨32 * h.val + p.val, by omega⟩) = X (ix2 s p) := by
  pointwise [repeated]
theorem repeated_high (X : FVec Ideal S4096x32 .f32) (s : Fin 4096) (h : Fin 2) (p : Fin 32) :
    repeated X (ix2 s ⟨64 + 32 * h.val + p.val, by omega⟩) = X (ix2 s p) := by
  pointwise [repeated]
theorem signed_low (X : FVec Ideal S4096x32 .f32) (s : Fin 4096) (h : Fin 2) (p : Fin 32) :
    signed X (ix2 s ⟨32 * h.val + p.val, by omega⟩) = -X (ix2 s p) := by
  match h with
  | ⟨0, _⟩ => pointwise [signed]
  | ⟨1, _⟩ => pointwise [signed]
theorem signed_high (X : FVec Ideal S4096x32 .f32) (s : Fin 4096) (h : Fin 2) (p : Fin 32) :
    signed X (ix2 s ⟨64 + 32 * h.val + p.val, by omega⟩) = X (ix2 s p) := by
  match h with
  | ⟨0, _⟩ => pointwise [signed]; rw [dif_neg (by omega), dif_neg (by omega)]; split <;> exact congrArg X (congrArg (ix2 s) (Fin.ext (by dsimp only; omega)))
  | ⟨1, _⟩ => pointwise [signed]; rw [dif_neg (by omega), dif_neg (by omega)]; split <;> exact congrArg X (congrArg (ix2 s) (Fin.ext (by dsimp only; omega)))

theorem V_v56 (c : Dev nD) : (V m c main_v56 : Vec Ideal S4096x128 .f32) = repeated (val_main_v74 (F := Ideal)) := by
  unfold val_main_v74
  rw [← axial_eq]
  simp only [V, V0, hostOps0, List.flatten_cons, List.flatten_nil, List.append_nil, List.cons_append, List.nil_append]
  after_results; rfl
theorem V_v59 (c : Dev nD) : (V m c main_v59 : Vec Ideal S4096x128 .f32) = signed (val_main_v76 (F := Ideal)) := by
  unfold val_main_v76
  rw [← axial_eq]
  simp only [V, V0, hostOps0, List.flatten_cons, List.flatten_nil, List.append_nil, List.cons_append, List.nil_append]
  after_results; rfl
theorem V_v64 (c : Dev nD) : (V m c main_v64 : Vec Ideal S4096x128 .f32) = repeated (val_main_v125 (F := Ideal)) := by
  unfold val_main_v125
  rw [← linear_eq]
  simp only [V, V0, hostOps0, List.flatten_cons, List.flatten_nil, List.append_nil, List.cons_append, List.nil_append]
  after_results; rfl
theorem V_v67 (c : Dev nD) : (V m c main_v67 : Vec Ideal S4096x128 .f32) = signed (val_main_v127 (F := Ideal)) := by
  unfold val_main_v127
  rw [← linear_eq]
  simp only [V, V0, hostOps0, List.flatten_cons, List.flatten_nil, List.append_nil, List.cons_append, List.nil_append]
  after_results; rfl
theorem V_v72 (c : Dev nD) : (V m c main_v72 : Vec Ideal S4096x128 .f32) = repeated (val_main_v125 (F := Ideal)) := by
  unfold val_main_v125
  rw [← linear_eq]
  simp only [V, V0, hostOps0, List.flatten_cons, List.flatten_nil, List.append_nil, List.cons_append, List.nil_append]
  after_results; rfl
theorem V_v75 (c : Dev nD) : (V m c main_v75 : Vec Ideal S4096x128 .f32) = signed (val_main_v127 (F := Ideal)) := by
  unfold val_main_v127
  rw [← linear_eq]
  simp only [V, V0, hostOps0, List.flatten_cons, List.flatten_nil, List.append_nil, List.cons_append, List.nil_append]
  after_results; rfl

/-! ## The weights, the gains and the grouping matrix -/

/-- The weights' columns in a given order. -/
def ordered (W : FVec Ideal S1x1024x1536 .f32) (I : IVec S1536 32) : FVec Ideal S1024x1536 .f32 :=
  Host.gather gather_S1024x1536_S1536x1_S1024x1536_0_1_n_n_1_1_10241 (shapeCast S1024x1536 W shapeCasts_S1x1024x1536_S1024x1536)
    (broadcastInDim S1536x1 ![0] bcast_S1536_S1536x1_0 I)

theorem ordered_apply (W : FVec Ideal S1x1024x1536 .f32) (I : IVec S1536 32) (k : Fin 1024) (c : Fin 1536) :
    ordered W I (ix2 k c) = W (ix3 0 k ⟨min (I (ix1 c)).toInt.toNat 1535, by omega⟩) := by
  unfold ordered
  rw [gather_columns]
  pointwise []

/-- A head's gains in a given order. -/
def spread (G : FVec Ideal S1x64 .f32) (I : IVec S128 32) : FVec Ideal S128 .f32 :=
  Host.gather gather_S64_S128x1_S128_n_0_n_n_0_1_1 (shapeCast S64 G shapeCasts_S1x64_S64) (broadcastInDim S128x1 ![0] bcast_S128_S128x1_0 I)

theorem spread_apply (G : FVec Ideal S1x64 .f32) (I : IVec S128 32) (l : Fin 128) :
    spread G I (ix1 l) = G (ix2 0 ⟨min (I (ix1 l)).toInt.toNat 63, by omega⟩) := by
  unfold spread
  rw [gather_entries]
  pointwise []

/-- The queries' gains four times, then the keys'. -/
def gains (Q K : FVec Ideal S128 .f32) : FVec Ideal S1x640 .f32 :=
  broadcastInDim S1x640 ![1] bcast_S640_S1x640_1 (concatenate S640 0
    [⟨S512, shapeCast S512 (broadcastInDim S4x128 ![0, 1] bcast_S1x128_S4x128_0_1 (shapeCast S1x128 Q shapeCasts_S128_S1x128)) shapeCasts_S4x128_S512⟩, ⟨S128, K⟩]
    concatenates_S512_S128_S640_d0)

theorem gains_query (Q K : FVec Ideal S128 .f32) (j : Fin 4) (l : Fin 128) :
    gains Q K (ix2 0 ⟨128 * j.val + l.val, by omega⟩) = Q (ix1 l) := by
  unfold gains
  pointwise []
  exact dif_pos (by omega)
theorem gains_key (Q K : FVec Ideal S128 .f32) (l : Fin 128) :
    gains Q K (ix2 0 ⟨512 + l.val, by omega⟩) = K (ix1 l) := by
  unfold gains
  pointwise []

/-- The host code's wrap-around of negative numbers is off. -/
theorem wrap_off {s : Shape} (x y : IVec s 32) : select (constantI s 1 0#1) x y = y := by
  funext i
  exact ValueIdx.select_zero _ _

theorem V_v9 (c : Dev nD) : (V m c main_v9 : Vec Ideal S1024x1536 .bf16) = ordered (a2 m c) (fun i => lit0 (S1536.rowMajor i)) := by
  simp only [V, V0, hostOps0, List.flatten_cons, List.flatten_nil, List.append_nil, List.cons_append, List.nil_append]
  after_results
  exact congrArg (ordered (a2 m c)) (wrap_off _ _)

theorem V_v26 (c : Dev nD) : (V m c main_v26 : Vec Ideal S1x640 .f32)
    = gains (spread (a3 m c) (fun i => lit1 (S128.rowMajor i))) (spread (a4 m c) (fun i => lit1 (S128.rowMajor i))) := by
  simp only [V, V0, hostOps0, List.flatten_cons, List.flatten_nil, List.append_nil, List.cons_append, List.nil_append]
  after_results
  exact congrArg₂ gains (congrArg (spread (a3 m c)) (wrap_off _ _)) (congrArg (spread (a4 m c)) (wrap_off _ _))

theorem V_cst (c : Dev nD) : (V m c main_cst : Vec Ideal S256x256 .bf16) = fun i => FloatOps.ofBits (F := Ideal) .bf16 (lit2 (S256x256.rowMajor i)) := by
  simp only [V, V0, hostOps0, List.flatten_cons, List.flatten_nil, List.append_nil, List.cons_append, List.nil_append]
  after_results; rfl

end Cert.ProjIdeal.Hand
-- ==== Proof.Proj.Body.lean ====
/- What one grid point of the projection call leaves in its six blocks, read off the body's run. -/
module

public import proofs.«01_k».proof.Proof.Gen.ProjIdeal.Frame
public import Idealize.ShloMosaic.Lib.VecWindow
public import Idealize.ShloMosaic.Lib.Pipeline.Value
public import Idealize.ShloMosaic.Lib.Pipeline.ValueKit.Tiles
public import proofs.«01_k».proof.Proof.Proj.Rows

@[expose] public section

set_option maxRecDepth 16384

noncomputable section

namespace Cert.ProjIdeal.Hand

open Cert.ProjIdeal Cert.ProjIdeal.Gen Cert.ProjRows
open Idealize.ShloMosaic Idealize.ShloMosaic.TcCoe Idealize.ShloMosaic.Tactic
open Idealize.SL Idealize.SL.RA Idealize.SL.BI Idealize.SL.Sem

/-! ## The blocks' entries as functions of the input blocks -/

section Entries

variable (x0 : Vec Ideal S1x1024x1024 .f32) (x1 : Vec Ideal S1x1024 .f32) (x2 : Vec Ideal S1024x1536 .bf16)
  (x3 : Vec Ideal S1x640 .f32) (x4 : Vec Ideal S256x256 .bf16)

/-- One entry of the projected block. -/
def entry (r : Fin 1024) (c : Fin 1536) : EReal :=
  projRow (fun k => x0 (ix3 0 r k)) (fun k => x1 (ix2 0 k)) (fun k => x2 (ix2 k c))

/-- The normalised query lanes of one 128-column block. -/
def queryLanes (r : Fin 1024) (j : Fin 4) (l : Fin 128) : EReal :=
  groupNorm (fun k : Fin 256 => entry x0 x1 x2 r ⟨256 * (j.val / 2) + k.val, by omega⟩) (fun k l => x4 (ix2 k l))
    (fun l => x3 (ix2 0 ⟨256 * (j.val / 2) + l.val, by omega⟩)) ⟨128 * (j.val % 2) + l.val, by omega⟩

/-- The normalised key lanes. -/
def keyLanes (r : Fin 1024) (l : Fin 128) : EReal :=
  groupNorm (fun k : Fin 128 => entry x0 x1 x2 r ⟨512 + k.val, by omega⟩) (fun k l => x4 (ix2 ⟨k.val, by omega⟩ ⟨l.val, by omega⟩))
    (fun l => x3 (ix2 0 ⟨512 + l.val, by omega⟩)) l

end Entries

/-! ## Loads and tiles at coordinates -/

/-- The weights' first 768 columns. -/
def weightLow (X : Vec Ideal S1024x1536 .bf16) : Vec Ideal S1024x768 .bf16 :=
  View.ld X (Rect.unit (s := S1024x1536) ![0, 0] ![1024, 768] inb_S1024x1536_S1024x768_0_0)

/-- The weights' last 768 columns. -/
def weightHigh (X : Vec Ideal S1024x1536 .bf16) : Vec Ideal S1024x768 .bf16 :=
  View.ld X (Rect.unit (s := S1024x1536) ![0, 768] ![1024, 768] inb_S1024x1536_S1024x768_0_768)

/-- The gains of the first 256 query lanes. -/
def gainLow (X : Vec Ideal S1x640 .f32) : Vec Ideal S1x256 .f32 :=
  View.ld X (Rect.unit (s := S1x640) ![0, 0] ![1, 256] inb_S1x640_S1x256_0_0)

/-- The gains of the last 256 query lanes. -/
def gainHigh (X : Vec Ideal S1x640 .f32) : Vec Ideal S1x256 .f32 :=
  View.ld X (Rect.unit (s := S1x640) ![0, 256] ![1, 256] inb_S1x640_S1x256_0_256)

/-- The gains of the key lanes. -/
def gainKey (X : Vec Ideal S1x640 .f32) : Vec Ideal S1x128 .f32 :=
  View.ld X (Rect.unit (s := S1x640) ![0, 512] ![1, 128] inb_S1x640_S1x128_0_512)

/-- The grouping matrix's first 128 rows and columns. -/
def corner (X : Vec Ideal S256x256 .bf16) : Vec Ideal S128x128 .bf16 :=
  View.ld X (Rect.unit (s := S256x256) ![0, 0] ![128, 128] inb_S256x256_S128x128_0_0)

theorem weightLow_apply (X : Vec Ideal S1024x1536 .bf16) (k : Fin 1024) (c : Fin 768) :
    weightLow X (ix2 k c) = X (ix2 k ⟨c.val, by omega⟩) :=
  View.ld_unit_apply_of X _ _ inb_S1024x1536_S1024x768_0_0 _ _ fun a => match a with
    | ⟨0, _⟩ => (Nat.zero_add k.val).symm
    | ⟨1, _⟩ => (Nat.zero_add c.val).symm

theorem weightHigh_apply (X : Vec Ideal S1024x1536 .bf16) (k : Fin 1024) (c : Fin 768) :
    weightHigh X (ix2 k c) = X (ix2 k ⟨768 + c.val, by omega⟩) :=
  View.ld_unit_apply_of X _ _ inb_S1024x1536_S1024x768_0_768 _ _ fun a => match a with
    | ⟨0, _⟩ => (Nat.zero_add k.val).symm
    | ⟨1, _⟩ => rfl

theorem gainLow_apply (X : Vec Ideal S1x640 .f32) (c : Fin 256) : gainLow X (ix2 0 c) = X (ix2 0 ⟨c.val, by omega⟩) :=
  View.ld_unit_apply_of X _ _ inb_S1x640_S1x256_0_0 _ _ fun a => match a with
    | ⟨0, _⟩ => rfl
    | ⟨1, _⟩ => (Nat.zero_add c.val).symm

theorem gainHigh_apply (X : Vec Ideal S1x640 .f32) (c : Fin 256) : gainHigh X (ix2 0 c) = X (ix2 0 ⟨256 + c.val, by omega⟩) :=
  View.ld_unit_apply_of X _ _ inb_S1x640_S1x256_0_256 _ _ fun a => match a with
    | ⟨0, _⟩ => rfl
    | ⟨1, _⟩ => rfl

theorem gainKey_apply (X : Vec Ideal S1x640 .f32) (c : Fin 128) : gainKey X (ix2 0 c) = X (ix2 0 ⟨512 + c.val, by omega⟩) :=
  View.ld_unit_apply_of X _ _ inb_S1x640_S1x128_0_512 _ _ fun a => match a with
    | ⟨0, _⟩ => rfl
    | ⟨1, _⟩ => rfl

theorem corner_apply (X : Vec Ideal S256x256 .bf16) (k l : Fin 128) :
    corner X (ix2 k l) = X (ix2 ⟨k.val, by omega⟩ ⟨l.val, by omega⟩) :=
  View.ld_unit_apply_of X _ _ inb_S256x256_S128x128_0_0 _ _ fun a => match a with
    | ⟨0, _⟩ => (Nat.zero_add k.val).symm
    | ⟨1, _⟩ => (Nat.zero_add l.val).symm

theorem tile_lanes {j : Fin 4} {r : Fin 1024} {l : Fin 128} {o : ℕ} {w : Vec Ideal S1x1024x128 .bf16} {v : EReal} (p : ℕ) (ho : o = 128 * p)
    (h : j.val = p → w (ix3 0 r l) = v) :
    View.TileAt (S := S1x1024x512) (Val := Elt Ideal) (e := .bf16) (ix3 0 r ⟨128 * j.val + l.val, by omega⟩) ![0, 0, o] S1x1024x128.size w v := by
  intro x hx
  have h0 : 0 = 0 + (x 0).val := hx 0
  have h1 : r.val = 0 + (x 1).val := hx 1
  have h2 : 128 * j.val + l.val = o + (x 2).val := hx 2
  have h3 : (x 2).val < 128 := (x 2).isLt
  have hx' : x = ix3 0 r l := by
    funext a
    match a with
    | ⟨0, _⟩ => apply Fin.ext; show (x 0).val = 0; omega
    | ⟨1, _⟩ => apply Fin.ext; show (x 1).val = r.val; omega
    | ⟨2, _⟩ => apply Fin.ext; show (x 2).val = l.val; omega
  rw [hx']
  exact h (by omega)

theorem tile_whole {r : Fin 1024} {l : Fin 128} {w : Vec Ideal S1x1024x128 .bf16} {v : EReal} (h : w (ix3 0 r l) = v) :
    View.TileAt (S := S1x1024x128) (Val := Elt Ideal) (e := .bf16) (ix3 0 r l) ![0, 0, 0] S1x1024x128.size w v := by
  intro x hx
  have hx' : x = ix3 0 r l := by
    funext a
    apply Fin.ext
    match a with
    | ⟨0, _⟩ => exact ((hx 0).trans (Nat.zero_add _)).symm
    | ⟨1, _⟩ => exact ((hx 1).trans (Nat.zero_add _)).symm
    | ⟨2, _⟩ => exact ((hx 2).trans (Nat.zero_add _)).symm
  rw [hx']
  exact h

theorem tile_value {n m : ℕ} {k : Fin n} {h : Fin 2} {d : Fin 64} {q : Fin m} {p o : ℕ} {w : Vec Ideal ⟨4, ![1, 1, 64, m]⟩ .bf16} {v : EReal}
    (ho : o = 80 * 0 ∨ o = 80 * 1) (hw : k.val = p → 80 * h.val = o → w (ix4 0 0 d q) = v) :
    View.TileAt (S := ⟨4, ![1, n, 160, m]⟩) (Val := Elt Ideal) (e := .bf16) (ix4 0 k ⟨80 * h.val + d.val, by omega⟩ q) ![0, p, o, 0] ![1, 1, 64, m] w v := by
  intro x hx
  have h0 : 0 = 0 + (x 0).val := hx 0
  have h1 : k.val = p + (x 1).val := hx 1
  have h2 : 80 * h.val + d.val = o + (x 2).val := hx 2
  have h3 : q.val = 0 + (x 3).val := hx 3
  have h4 : (x 1).val < 1 := (x 1).isLt
  have h5 : (x 2).val < 64 := (x 2).isLt
  have hx' : x = ix4 0 0 d q := by
    funext a
    apply Fin.ext
    match a with
    | ⟨0, _⟩ => show (x 0).val = 0; omega
    | ⟨1, _⟩ => show (x 1).val = 0; omega
    | ⟨2, _⟩ => show (x 2).val = d.val; omega
    | ⟨3, _⟩ => show (x 3).val = q.val; omega
  rw [hx']
  exact hw (by omega) (by omega)

/-- The rows of ones hold no entry of the values. -/
theorem tile_ones {n m : ℕ} {k : Fin n} {h : Fin 2} {d : Fin 64} {q : Fin m} {p o : ℕ} {w : Vec Ideal ⟨4, ![1, 1, 16, m]⟩ .bf16} {v : EReal}
    (ho : o = 64 ∨ o = 144) :
    View.TileAt (S := ⟨4, ![1, n, 160, m]⟩) (Val := Elt Ideal) (e := .bf16) (ix4 0 k ⟨80 * h.val + d.val, by omega⟩ q) ![0, p, o, 0] ![1, 1, 16, m] w v := by
  intro x hx
  have h2 : 80 * h.val + d.val = o + (x 2).val := hx 2
  have h5 : (x 2).val < 16 := (x 2).isLt
  omega

theorem entry_high (x0 : Vec Ideal S1x1024x1024 .f32) (x1 : Vec Ideal S1x1024 .f32) (x2 : Vec Ideal S1024x1536 .bf16) (r : Fin 1024) (e : Fin 768) :
    k0_pay3 x0 x1 (weightHigh x2) (ix2 r e) = entry x0 x1 x2 r ⟨768 + e.val, by omega⟩ := by
  unfold entry
  simp only [second_payload, weightHigh_apply]

theorem zero_offsets2 : (![0, 0] : Fin 2 → ℕ) = fun _ => 0 := by funext a; fin_cases a <;> rfl
theorem zero_offsets3 : (![0, 0, 0] : Fin 3 → ℕ) = fun _ => 0 := by funext a; fin_cases a <;> rfl

section Run

variable (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S1x640 .f32) (harg5 : arg5.IsWhole) (arg6 : Memref sig .tc .vmem S256x256 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1x1024x512 .bf16) (harg13 : arg13.IsWhole) (arg14 : Memref sig .tc .vmem S1x1024x128 .bf16) (harg14 : arg14.IsWhole) (arg15 : Memref sig .tc .vmem S1x4x160x256 .bf16) (harg15 : arg15.IsWhole) (arg16 : Memref sig .tc .vmem S1x1024x512 .bf16) (harg16 : arg16.IsWhole) (arg17 : Memref sig .tc .vmem S1x1024x128 .bf16) (harg17 : arg17.IsWhole) (arg18 : Memref sig .tc .vmem S1x8x160x128 .bf16) (harg18 : arg18.IsWhole)
  (x0 : Vec Ideal S1x1024x1024 .f32) (x1 : Vec Ideal S1x1024 .f32) (x2 : Vec Ideal S1024x1536 .bf16) (x3 : Vec Ideal S1x640 .f32) (x4 : Vec Ideal S256x256 .bf16) (x5 x6 x7 x8 x9 x10 : Vec Ideal S1024x128 .f32)

set_option maxHeartbeats 4000000 in
theorem body_queries_a (r : Fin 1024) (j : Fin 4) (l : Fin 128) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix3 0 r ⟨128 * j.val + l.val, by omega⟩)
      = turn (queryLanes x0 x1 x2 x3 x4 r j) (fun l => x5 (ix2 r l)) (fun l => x6 (ix2 r l)) l := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  refine View.canon_eq_of_allAt _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 _) ?_
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S1x1024x1024) zero_offsets3, View.ld_unit_zero (S := S1x1024) zero_offsets2,
    View.ld_unit_zero (S := S256x256) zero_offsets2, View.ld_unit_zero (S := S1024x128) zero_offsets2]
  refine View.allAt_cons_unit _ _ _ _ _ (tile_lanes 3 rfl fun hj => ?_) (View.allAt_cons_unit _ _ _ _ _ (tile_lanes 2 rfl fun hj => ?_)
    (View.allAt_cons_unit _ _ _ _ _ (tile_lanes 1 rfl fun hj => ?_) (View.allAt_cons_unit _ _ _ _ _ (tile_lanes 0 rfl fun hj => ?_)
      (View.allAt_nil _ _))))
  · obtain rfl : j = 3 := Fin.ext hj
    refine (turn_payload3 x5 x6 r (k0_pay11 (k0_pay2 x0 x1 (weightLow x2)) x4 (gainHigh x3)) l).trans ?_
    unfold queryLanes entry
    simp only [norm_payload', first_payload, weightLow_apply, gainLow_apply, gainHigh_apply]
    simp
  · obtain rfl : j = 2 := Fin.ext hj
    refine (turn_payload2 (k0_pay2 x0 x1 (weightLow x2)) x4 (gainHigh x3) x5 x6 r l).trans ?_
    unfold queryLanes entry
    simp only [norm_payload', first_payload, weightLow_apply, gainLow_apply, gainHigh_apply]
    simp
  · obtain rfl : j = 1 := Fin.ext hj
    refine (turn_payload1 (gainLow x3) x5 x6 r (k0_pay6 x0 x1 (weightLow x2)) (k0_pay7 x0 x1 (weightLow x2) x4) l).trans ?_
    unfold queryLanes entry
    simp only [norm_payload, first_payload, weightLow_apply, gainLow_apply, gainHigh_apply]
    simp
  · obtain rfl : j = 0 := Fin.ext hj
    refine (turn_payload0 (gainLow x3) x5 x6 r (k0_pay6 x0 x1 (weightLow x2)) (k0_pay7 x0 x1 (weightLow x2) x4) l).trans ?_
    unfold queryLanes entry
    simp only [norm_payload, first_payload, weightLow_apply, gainLow_apply, gainHigh_apply]
    simp

set_option maxHeartbeats 4000000 in
theorem body_keys_a (r : Fin 1024) (l : Fin 128) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix3 0 r l)
      = turn (keyLanes x0 x1 x2 x3 x4 r) (fun l => x5 (ix2 r l)) (fun l => x6 (ix2 r l)) l := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  refine View.canon_eq_of_allAt _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 _) ?_
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S1x1024x1024) zero_offsets3, View.ld_unit_zero (S := S1x1024) zero_offsets2,
    View.ld_unit_zero (S := S256x256) zero_offsets2, View.ld_unit_zero (S := S1024x128) zero_offsets2]
  refine View.allAt_cons_unit _ _ _ _ _ (tile_whole ?_) (View.allAt_nil _ _)
  refine (key_payload (k0_pay2 x0 x1 (weightLow x2)) x5 x6 r (corner x4) (gainKey x3) l).trans ?_
  unfold keyLanes entry
  simp only [first_payload, weightLow_apply, gainKey_apply, corner_apply]

set_option maxHeartbeats 4000000 in
theorem body_queries_b (r : Fin 1024) (j : Fin 4) (l : Fin 128) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix3 0 r ⟨128 * j.val + l.val, by omega⟩)
      = turn (fun l => entry x0 x1 x2 r ⟨768 + 128 * j.val + l.val, by omega⟩) (fun l => x7 (ix2 r l)) (fun l => x8 (ix2 r l)) l := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  refine View.canon_eq_of_allAt _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 _) ?_
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S1x1024x1024) zero_offsets3, View.ld_unit_zero (S := S1x1024) zero_offsets2,
    View.ld_unit_zero (S := S256x256) zero_offsets2, View.ld_unit_zero (S := S1024x128) zero_offsets2]
  refine View.allAt_cons_unit _ _ _ _ _ (tile_lanes 3 rfl fun hj => ?_) (View.allAt_cons_unit _ _ _ _ _ (tile_lanes 2 rfl fun hj => ?_)
    (View.allAt_cons_unit _ _ _ _ _ (tile_lanes 1 rfl fun hj => ?_) (View.allAt_cons_unit _ _ _ _ _ (tile_lanes 0 rfl fun hj => ?_)
      (View.allAt_nil _ _))))
  · obtain rfl : j = 3 := Fin.ext hj
    refine (plain_payload3 (k0_pay3 x0 x1 (weightHigh x2)) x7 x8 r l).trans ?_
    simp only [second_payload, weightHigh_apply]
    simp [entry, ← Nat.add_assoc]
  · obtain rfl : j = 2 := Fin.ext hj
    refine (plain_payload2 (k0_pay3 x0 x1 (weightHigh x2)) x7 x8 r l).trans ?_
    simp only [second_payload, weightHigh_apply]
    simp [entry, ← Nat.add_assoc]
  · obtain rfl : j = 1 := Fin.ext hj
    refine (plain_payload1 (k0_pay3 x0 x1 (weightHigh x2)) x7 x8 r l).trans ?_
    simp only [second_payload, weightHigh_apply]
    simp [entry, ← Nat.add_assoc]
  · obtain rfl : j = 0 := Fin.ext hj
    refine (plain_payload0 (k0_pay3 x0 x1 (weightHigh x2)) x7 x8 r l).trans ?_
    simp only [second_payload, weightHigh_apply]
    simp [entry, ← Nat.add_assoc]

set_option maxHeartbeats 4000000 in
theorem body_keys_b (r : Fin 1024) (l : Fin 128) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix3 0 r l)
      = turn (fun l => entry x0 x1 x2 r ⟨640 + l.val, by omega⟩) (fun l => x9 (ix2 r l)) (fun l => x10 (ix2 r l)) l := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  refine View.canon_eq_of_allAt _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 _) ?_
  unfold kernelRun0_A
  dsimp only
  sl_unfold_words
  simp only [View.readAt_eq_ld, harg2.read_unread, harg3.read_unread, harg4.read_unread, harg5.read_unread, harg6.read_unread,
    harg7.read_unread, harg8.read_unread, harg9.read_unread, harg10.read_unread, harg11.read_unread, harg12.read_unread,
    View.ld_unit_zero (S := S1x1024x1024) zero_offsets3, View.ld_unit_zero (S := S1x1024) zero_offsets2,
    View.ld_unit_zero (S := S256x256) zero_offsets2, View.ld_unit_zero (S := S1024x128) zero_offsets2]
  refine View.allAt_cons_unit _ _ _ _ _ (tile_whole ?_) (View.allAt_nil _ _)
  refine (plain_key_payload (k0_pay2 x0 x1 (weightLow x2)) x9 x10 r l).trans ?_
  simp only [first_payload, weightLow_apply]
  simp [entry]

set_option maxHeartbeats 4000000 in
theorem body_values_a (k : Fin 4) (h : Fin 2) (d : Fin 64) (q : Fin 256) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix4 0 k ⟨80 * h.val + d.val, by omega⟩ q)
      = entry x0 x1 x2 ⟨256 * k.val + q.val, by omega⟩ ⟨1280 + 64 * h.val + d.val, by omega⟩ := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  refine View.canon_eq_of_allAt _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 _) ?_
  unfold kernelRun0_A
  dsimp only
  sl_unfold_words
  simp only [View.readAt_eq_ld, harg2.read_unread, harg3.read_unread, harg4.read_unread,
    View.ld_unit_zero (S := S1x1024x1024) zero_offsets3, View.ld_unit_zero (S := S1x1024) zero_offsets2]
  generalize hu : k0_pay3 x0 x1 _ = u
  have hu' : ∀ r e, u (ix2 r e) = entry x0 x1 x2 r ⟨768 + e.val, by omega⟩ := fun r e => by
    rw [← hu]
    exact entry_high x0 x1 x2 r e
  repeat' first
    | exact View.allAt_nil _ _
    | refine View.allAt_cons_unit _ _ _ _ _ (tile_ones (by decide)) ?_
    | refine View.allAt_cons_unit _ _ _ _ _ (tile_value (by decide) fun hk hh => ?_) ?_
  all_goals
    pointwise [k0_pay23, k0_pay25, k0_pay41]
    refine (hu' _ _).trans (congrArg₂ (entry x0 x1 x2) (Fin.ext ?_) (Fin.ext ?_)) <;> dsimp only <;> omega

set_option maxHeartbeats 4000000 in
theorem body_values_b (k : Fin 8) (h : Fin 2) (d : Fin 64) (q : Fin 128) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 (ix4 0 k ⟨80 * h.val + d.val, by omega⟩ q)
      = entry x0 x1 x2 ⟨128 * k.val + q.val, by omega⟩ ⟨1408 + 64 * h.val + d.val, by omega⟩ := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10)]
  refine View.canon_eq_of_allAt _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 _) ?_
  unfold kernelRun0_A
  dsimp only
  sl_unfold_words
  simp only [View.readAt_eq_ld, harg2.read_unread, harg3.read_unread, harg4.read_unread,
    View.ld_unit_zero (S := S1x1024x1024) zero_offsets3, View.ld_unit_zero (S := S1x1024) zero_offsets2]
  generalize hu : k0_pay3 x0 x1 _ = u
  have hu' : ∀ r e, u (ix2 r e) = entry x0 x1 x2 r ⟨768 + e.val, by omega⟩ := fun r e => by
    rw [← hu]
    exact entry_high x0 x1 x2 r e
  repeat' first
    | exact View.allAt_nil _ _
    | refine View.allAt_cons_unit _ _ _ _ _ (tile_ones (by decide)) ?_
    | refine View.allAt_cons_unit _ _ _ _ _ (tile_value (by decide) fun hk hh => ?_) ?_
  all_goals
    pointwise [k0_pay43, k0_pay45, k0_pay47, k0_pay49, k0_pay73, k0_pay75, k0_pay77]
    refine (hu' _ _).trans (congrArg₂ (entry x0 x1 x2) (Fin.ext ?_) (Fin.ext ?_)) <;> dsimp only <;> omega

end Run

end Cert.ProjIdeal.Hand
-- ==== Proof.Proj.Reference.lean ====
/- The reference's stages read as one row's arithmetic. -/
module

public import proofs.«01_k».proof.Proof.Proj.Model
public import proofs.«01_k».proof.Proof.Gen.ProjReferenceIdeal.Read

@[expose] public section

set_option maxRecDepth 16384

noncomputable section

namespace Cert.ProjReferenceIdeal.Hand

open Cert.ProjReferenceIdeal Cert.ProjReferenceIdeal.Read Cert.ProjRows
open Idealize.ShloMosaic Idealize.ShloMosaic.TcCoe

variable (x0 : Vec Ideal S8x4096x1024 .f32) (x1 : Vec Ideal S1x1024 .f32) (x2 : Vec Ideal S1x1024x1536 .f32)
  (x3 x4 : Vec Ideal S1x64 .f32) (b : Fin 8) (s : Fin 4096)

theorem ref_row (k : Fin 1024) :
    val_main_v50 (F := Ideal) x0 x1 (ix3 b s k) = rmsRow (fun k => x0 (ix3 b s k)) (fun k => x1 (ix2 0 k)) k := by
  unfold rmsRow
  pointwise [val_main_v50, val_main_v49, val_main_v48, val_main_v47, val_main_v46, val_main_v45, val_main_v44, val_main_v43, val_main_cst_5,
    val_main_v42, val_main_v41, val_main_cst_4, val_main_v40, val_main_v39, val_main_cst_3, val_main_v38, val_main_v37]

theorem ref_proj (c : Fin 1536) :
    val_main_v52 (F := Ideal) x0 x1 x2 (ix3 b s c)
      = projRow (fun k => x0 (ix3 b s k)) (fun k => x1 (ix2 0 k)) (fun k => x2 (ix3 0 k c)) := by
  unfold projRow
  pointwise [val_main_v52, val_main_v51]
  simp only [ref_row]

theorem ref_head_a (h : Fin 8) (d : Fin 64) :
    val_main_v59 (F := Ideal) x0 x1 x2 (ix4 b s h d) = val_main_v52 (F := Ideal) x0 x1 x2 (ix3 b s ⟨64 * h.val + d.val, by omega⟩) := by
  pointwise [val_main_v59, val_main_v53]
  simp only [Nat.mul_comm h.val 64]

theorem ref_norm_a (h : Fin 8) (d : Fin 64) :
    val_main_v73 (F := Ideal) x0 x1 x2 x3 (ix4 b s h d)
      = headNorm (fun d => val_main_v59 (F := Ideal) x0 x1 x2 (ix4 b s h d)) (fun d => x3 (ix2 0 d)) d := by
  unfold headNorm
  pointwise [val_main_v73, val_main_v72, val_main_v71, val_main_v70, val_main_v69, val_main_v68, val_main_v67, val_main_v66, val_main_cst_8,
    val_main_v65, val_main_v64, val_main_cst_7, val_main_v63, val_main_v62, val_main_cst_6, val_main_v61, val_main_v60]

theorem ref_low_a (h : Fin 8) (p : Fin 32) :
    val_main_v161 (F := Ideal) x0 x1 x2 x3 (ix4 b s h ⟨p.val, by omega⟩)
      = turnLow (fun d => val_main_v73 (F := Ideal) x0 x1 x2 x3 (ix4 b s h d)) (fun p => val_main_v74 (F := Ideal) (ix2 s p))
          (fun p => val_main_v76 (F := Ideal) (ix2 s p)) p := by
  unfold turnLow
  pointwise [val_main_v161, val_main_v90, val_main_v89, val_main_v84, val_main_v83, val_main_v82, val_main_v81, val_main_v80,
    val_main_v79, val_main_v78, val_main_v77, val_main_v75]

theorem ref_high_a (h : Fin 8) (p : Fin 32) :
    val_main_v161 (F := Ideal) x0 x1 x2 x3 (ix4 b s h ⟨32 + p.val, by omega⟩)
      = turnHigh (fun d => val_main_v73 (F := Ideal) x0 x1 x2 x3 (ix4 b s h d)) (fun p => val_main_v74 (F := Ideal) (ix2 s p))
          (fun p => val_main_v76 (F := Ideal) (ix2 s p)) p := by
  unfold turnHigh
  pointwise [val_main_v161, val_main_v90, val_main_v89, val_main_v88, val_main_v87, val_main_v86, val_main_v85, val_main_v84,
    val_main_v79, val_main_v78, val_main_v77, val_main_v75]

/-! ## The keys of the first mixer -/

theorem ref_head_ka (h : Fin 2) (d : Fin 64) :
    val_main_v91 (F := Ideal) x0 x1 x2 (ix4 b s h d) = val_main_v52 (F := Ideal) x0 x1 x2 (ix3 b s ⟨512 + 64 * h.val + d.val, by omega⟩) := by
  pointwise [val_main_v91, val_main_v54]
  simp only [Nat.mul_comm h.val 64, Nat.add_assoc]

theorem ref_norm_ka (h : Fin 2) (d : Fin 64) :
    val_main_v105 (F := Ideal) x0 x1 x2 x4 (ix4 b s h d)
      = headNorm (fun d => val_main_v91 (F := Ideal) x0 x1 x2 (ix4 b s h d)) (fun d => x4 (ix2 0 d)) d := by
  unfold headNorm
  pointwise [val_main_v105, val_main_v104, val_main_v103, val_main_v102, val_main_v101, val_main_v100, val_main_v99, val_main_v98,
    val_main_cst_11, val_main_v97, val_main_v96, val_main_cst_10, val_main_v95, val_main_v94, val_main_cst_9, val_main_v93, val_main_v92]

theorem ref_low_ka (h : Fin 2) (p : Fin 32) :
    val_main_v162 (F := Ideal) x0 x1 x2 x4 (ix4 b s h ⟨p.val, by omega⟩)
      = turnLow (fun d => val_main_v105 (F := Ideal) x0 x1 x2 x4 (ix4 b s h d)) (fun p => val_main_v106 (F := Ideal) (ix2 s p))
          (fun p => val_main_v108 (F := Ideal) (ix2 s p)) p := by
  unfold turnLow
  pointwise [val_main_v162, val_main_v122, val_main_v121, val_main_v120, val_main_v119, val_main_v118, val_main_v117, val_main_v116,
    val_main_v115, val_main_v114, val_main_v113, val_main_v112, val_main_v111, val_main_v110, val_main_v109, val_main_v107]

theorem ref_high_ka (h : Fin 2) (p : Fin 32) :
    val_main_v162 (F := Ideal) x0 x1 x2 x4 (ix4 b s h ⟨32 + p.val, by omega⟩)
      = turnHigh (fun d => val_main_v105 (F := Ideal) x0 x1 x2 x4 (ix4 b s h d)) (fun p => val_main_v106 (F := Ideal) (ix2 s p))
          (fun p => val_main_v108 (F := Ideal) (ix2 s p)) p := by
  unfold turnHigh
  pointwise [val_main_v162, val_main_v122, val_main_v121, val_main_v120, val_main_v119, val_main_v118, val_main_v117, val_main_v116,
    val_main_v115, val_main_v114, val_main_v113, val_main_v112, val_main_v111, val_main_v110, val_main_v109, val_main_v107]

/-! ## The second mixer's queries and keys -/

theorem ref_head_b (h : Fin 8) (d : Fin 64) :
    val_main_v124 (F := Ideal) x0 x1 x2 (ix4 b s h d) = val_main_v52 (F := Ideal) x0 x1 x2 (ix3 b s ⟨768 + 64 * h.val + d.val, by omega⟩) := by
  pointwise [val_main_v124, val_main_v56]
  simp only [Nat.mul_comm h.val 64, Nat.add_assoc]

theorem ref_low_b (h : Fin 8) (p : Fin 32) :
    val_main_v164 (F := Ideal) x0 x1 x2 (ix4 b s h ⟨p.val, by omega⟩)
      = turnLow (fun d => val_main_v124 (F := Ideal) x0 x1 x2 (ix4 b s h d)) (fun p => val_main_v125 (F := Ideal) (ix2 s p))
          (fun p => val_main_v127 (F := Ideal) (ix2 s p)) p := by
  unfold turnLow
  pointwise [val_main_v164, val_main_v141, val_main_v135, val_main_v134, val_main_v133, val_main_v132, val_main_v131, val_main_v130,
    val_main_v129, val_main_v128, val_main_v126]

theorem ref_high_b (h : Fin 8) (p : Fin 32) :
    val_main_v164 (F := Ideal) x0 x1 x2 (ix4 b s h ⟨32 + p.val, by omega⟩)
      = turnHigh (fun d => val_main_v124 (F := Ideal) x0 x1 x2 (ix4 b s h d)) (fun p => val_main_v125 (F := Ideal) (ix2 s p))
          (fun p => val_main_v127 (F := Ideal) (ix2 s p)) p := by
  unfold turnHigh
  pointwise [val_main_v164, val_main_v141, val_main_v140, val_main_v139, val_main_v138, val_main_v137, val_main_v136, val_main_v130,
    val_main_v129, val_main_v128, val_main_v126]

theorem ref_head_kb (h : Fin 2) (d : Fin 64) :
    val_main_v142 (F := Ideal) x0 x1 x2 (ix4 b s h d) = val_main_v52 (F := Ideal) x0 x1 x2 (ix3 b s ⟨1280 + 64 * h.val + d.val, by omega⟩) := by
  pointwise [val_main_v142, val_main_v57]
  simp only [Nat.mul_comm h.val 64, Nat.add_assoc]

theorem ref_low_kb (h : Fin 2) (p : Fin 32) :
    val_main_v165 (F := Ideal) x0 x1 x2 (ix4 b s h ⟨p.val, by omega⟩)
      = turnLow (fun d => val_main_v142 (F := Ideal) x0 x1 x2 (ix4 b s h d)) (fun p => val_main_v143 (F := Ideal) (ix2 s p))
          (fun p => val_main_v145 (F := Ideal) (ix2 s p)) p := by
  unfold turnLow
  pointwise [val_main_v165, val_main_v159, val_main_v153, val_main_v152, val_main_v151, val_main_v150, val_main_v149, val_main_v148,
    val_main_v147, val_main_v146, val_main_v144]

theorem ref_high_kb (h : Fin 2) (p : Fin 32) :
    val_main_v165 (F := Ideal) x0 x1 x2 (ix4 b s h ⟨32 + p.val, by omega⟩)
      = turnHigh (fun d => val_main_v142 (F := Ideal) x0 x1 x2 (ix4 b s h d)) (fun p => val_main_v143 (F := Ideal) (ix2 s p))
          (fun p => val_main_v145 (F := Ideal) (ix2 s p)) p := by
  unfold turnHigh
  pointwise [val_main_v165, val_main_v159, val_main_v158, val_main_v157, val_main_v156, val_main_v155, val_main_v154, val_main_v148,
    val_main_v147, val_main_v146, val_main_v144]

/-! ## The values -/

theorem ref_value_a (h : Fin 2) (d : Fin 64) :
    val_main_v163 (F := Ideal) x0 x1 x2 (ix4 b s h d) = val_main_v52 (F := Ideal) x0 x1 x2 (ix3 b s ⟨640 + 64 * h.val + d.val, by omega⟩) := by
  pointwise [val_main_v163, val_main_v123, val_main_v55]
  simp only [Nat.mul_comm h.val 64, Nat.add_assoc]

theorem ref_value_b (h : Fin 2) (d : Fin 64) :
    val_main_v166 (F := Ideal) x0 x1 x2 (ix4 b s h d) = val_main_v52 (F := Ideal) x0 x1 x2 (ix3 b s ⟨1408 + 64 * h.val + d.val, by omega⟩) := by
  pointwise [val_main_v166, val_main_v160, val_main_v58]
  simp only [Nat.mul_comm h.val 64, Nat.add_assoc]

end Cert.ProjReferenceIdeal.Hand
-- ==== Proof.Proj.Blocks.lean ====
/- The blocks a grid point of the projection call reads, and what it leaves of them, as stages of the reference. -/
module

public import proofs.«01_k».proof.Proof.Proj.Host
public import proofs.«01_k».proof.Proof.Proj.Body
public import proofs.«01_k».proof.Proof.Proj.Reference

@[expose] public section

set_option maxRecDepth 16384

noncomputable section

namespace Cert.ProjIdeal.Hand

open Cert.ProjIdeal Cert.ProjIdeal.Gen Cert.ProjRows
open Cert.ProjReferenceIdeal.Read Cert.ProjReferenceIdeal.Hand
open Idealize.ShloMosaic Idealize.ShloMosaic.TcCoe Idealize.SL.Sem

variable (m : (ℓ : Loc nD τ sig) → Buf (Elt Ideal) ℓ) (c : Dev nD) (t : Fin cfg0.N)

/-- The batch and the position of row `r` of the block at grid point `t`. -/
def batchAt : Fin 8 := ⟨t.val % 8, by omega⟩
def posAt (r : Fin 1024) : Fin 4096 := ⟨1024 * (t.val / 8) + r.val, by have : t.val < 32 := t.isLt; omega⟩

/-! ## Where the blocks lie -/

theorem idx_x : ∀ t : Fin cfg0.N, win0_0.index t (0 : Fin 3) = t.val % 8 ∧ win0_0.index t (1 : Fin 3) = t.val / 8 ∧ win0_0.index t (2 : Fin 3) = 0 :=
  (by decide +kernel : ∀ t : Fin grid0.N, _)
theorem idx_stay : ∀ t : Fin cfg0.N, (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) := (by decide +kernel : ∀ t : Fin grid0.N, _)
theorem idx_tables : ∀ t : Fin cfg0.N, (win0_5.index t (0 : Fin 2) = t.val / 8 ∧ win0_5.index t (1 : Fin 2) = 0)
    ∧ (win0_6.index t (0 : Fin 2) = t.val / 8 ∧ win0_6.index t (1 : Fin 2) = 0) ∧ (win0_7.index t (0 : Fin 2) = t.val / 8 ∧ win0_7.index t (1 : Fin 2) = 0)
    ∧ (win0_8.index t (0 : Fin 2) = t.val / 8 ∧ win0_8.index t (1 : Fin 2) = 0) ∧ (win0_9.index t (0 : Fin 2) = t.val / 8 ∧ win0_9.index t (1 : Fin 2) = 0)
    ∧ (win0_10.index t (0 : Fin 2) = t.val / 8 ∧ win0_10.index t (1 : Fin 2) = 0) := (by decide +kernel : ∀ t : Fin grid0.N, _)

theorem blk0 (r k : Fin 1024) :
    (iblk m c 0 t : Vec Ideal S1x1024x1024 .f32) (ix3 0 r k) = a0 m c (ix3 (batchAt t) (posAt t r) k) := by
  obtain ⟨e0, e1, e2⟩ := idx_x t
  have he : ((cfg0.win 0).blk t).view.emb (ix3 0 r k) = (ix3 (batchAt t) (posAt t r) k : S8x4096x1024.Idx) := by
    funext a; apply Fin.ext
    match a with
    | ⟨0, _⟩ => show win0_0.index t (0 : Fin 3) * 1 + 1 * 0 = t.val % 8; omega
    | ⟨1, _⟩ => show win0_0.index t (1 : Fin 3) * 1024 + 1 * r.val = 1024 * (t.val / 8) + r.val; omega
    | ⟨2, _⟩ => show win0_0.index t (2 : Fin 3) * 1024 + 1 * k.val = k.val; omega
  show V m c main_arg0 (((cfg0.win 0).blk t).view.emb (ix3 0 r k)) = _
  rw [he, V_main_arg0]

theorem blk1 (k : Fin 1024) : (iblk m c 1 t : Vec Ideal S1x1024 .f32) (ix2 0 k) = a1 m c (ix2 0 k) := by
  obtain ⟨⟨e0, e1⟩, -⟩ := idx_stay t
  show V m c main_arg1 (((cfg0.win 1).blk t).view.emb (ix2 0 k)) = _
  rw [V_main_arg1]
  refine congrArg (a1 m c) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

theorem blk2 (k : Fin 1024) (e : Fin 1536) :
    (iblk m c 2 t : Vec Ideal S1024x1536 .bf16) (ix2 k e) = a2 m c (ix3 0 k ⟨column e.val, by rw [← column_word]; omega⟩) := by
  obtain ⟨-, ⟨e0, e1⟩, -⟩ := idx_stay t
  have he : ((cfg0.win 2).blk t).view.emb (ix2 k e) = (ix2 k e : S1024x1536.Idx) := by
    funext a; apply Fin.ext
    match a with
    | ⟨0, _⟩ => show win0_2.index t (0 : Fin 2) * 1024 + 1 * k.val = k.val; omega
    | ⟨1, _⟩ => show win0_2.index t (1 : Fin 2) * 1536 + 1 * e.val = e.val; omega
  show (V m c main_v9 : Vec Ideal S1024x1536 .bf16) (((cfg0.win 2).blk t).view.emb (ix2 k e)) = _
  rw [he, V_v9]
  refine (ordered_apply _ _ _ _).trans (congrArg (a2 m c) (congrArg (ix3 0 k) (Fin.ext ?_)))
  exact (congrArg (fun i => min (lit0 i).toInt.toNat 1535) (rowMajor_line e)).trans (column_word e)

theorem emb3 (l : Fin 640) : ((cfg0.win 3).blk t).view.emb (ix2 0 l) = (ix2 0 l : S1x640.Idx) := by
  obtain ⟨-, -, ⟨e0, e1⟩, -⟩ := idx_stay t
  funext a; apply Fin.ext
  match a with
  | ⟨0, _⟩ => show win0_3.index t (0 : Fin 2) * 1 + 1 * 0 = 0; omega
  | ⟨1, _⟩ => show win0_3.index t (1 : Fin 2) * 640 + 1 * l.val = l.val; omega

theorem blk3_query (j : Fin 4) (l : Fin 128) :
    (iblk m c 3 t : Vec Ideal S1x640 .f32) (ix2 0 ⟨128 * j.val + l.val, by omega⟩) = a3 m c (ix2 0 ⟨place l.val, place_lt _⟩) := by
  show (V m c main_v26 : Vec Ideal S1x640 .f32) (((cfg0.win 3).blk t).view.emb (ix2 0 ⟨128 * j.val + l.val, by omega⟩)) = _
  rw [emb3, V_v26, gains_query]
  refine (spread_apply _ _ _).trans (congrArg (a3 m c) (congrArg (ix2 0) (Fin.ext ?_)))
  exact (congrArg (fun i => min (lit1 i).toInt.toNat 63) (rowMajor_line l)).trans (place_word l)

theorem blk3_key (l : Fin 128) :
    (iblk m c 3 t : Vec Ideal S1x640 .f32) (ix2 0 ⟨512 + l.val, by omega⟩) = a4 m c (ix2 0 ⟨place l.val, place_lt _⟩) := by
  show (V m c main_v26 : Vec Ideal S1x640 .f32) (((cfg0.win 3).blk t).view.emb (ix2 0 ⟨512 + l.val, by omega⟩)) = _
  rw [emb3, V_v26, gains_key]
  refine (spread_apply _ _ _).trans (congrArg (a4 m c) (congrArg (ix2 0) (Fin.ext ?_)))
  exact (congrArg (fun i => min (lit1 i).toInt.toNat 63) (rowMajor_line l)).trans (place_word l)

theorem blk4 (k l : Fin 256) :
    (iblk m c 4 t : Vec Ideal S256x256 .bf16) (ix2 k l) = if group k.val = group l.val then (1 : EReal) else 0 := by
  obtain ⟨-, -, -, e0, e1⟩ := idx_stay t
  have he : ((cfg0.win 4).blk t).view.emb (ix2 k l) = (ix2 k l : S256x256.Idx) := by
    funext a; apply Fin.ext
    match a with
    | ⟨0, _⟩ => show win0_4.index t (0 : Fin 2) * 256 + 1 * k.val = k.val; omega
    | ⟨1, _⟩ => show win0_4.index t (1 : Fin 2) * 256 + 1 * l.val = l.val; omega
  show (V m c main_cst : Vec Ideal S256x256 .bf16) (((cfg0.win 4).blk t).view.emb (ix2 k l)) = _
  rw [he, V_cst]
  exact group_table k l

theorem blk5 (r : Fin 1024) (l : Fin 128) :
    (iblk m c 5 t : Vec Ideal S1024x128 .f32) (ix2 r l) = repeated (val_main_v74 (F := Ideal)) (ix2 (posAt t r) l) := by
  obtain ⟨⟨e0, e1⟩, -⟩ := idx_tables t
  have he : ((cfg0.win 5).blk t).view.emb (ix2 r l) = (ix2 (posAt t r) l : S4096x128.Idx) := by
    funext a; apply Fin.ext
    match a with
    | ⟨0, _⟩ => show win0_5.index t (0 : Fin 2) * 1024 + 1 * r.val = 1024 * (t.val / 8) + r.val; omega
    | ⟨1, _⟩ => show win0_5.index t (1 : Fin 2) * 128 + 1 * l.val = l.val; omega
  show (V m c main_v56 : Vec Ideal S4096x128 .f32) (((cfg0.win 5).blk t).view.emb (ix2 r l)) = _
  rw [he, V_v56]

theorem blk6 (r : Fin 1024) (l : Fin 128) :
    (iblk m c 6 t : Vec Ideal S1024x128 .f32) (ix2 r l) = signed (val_main_v76 (F := Ideal)) (ix2 (posAt t r) l) := by
  obtain ⟨-, ⟨e0, e1⟩, -⟩ := idx_tables t
  have he : ((cfg0.win 6).blk t).view.emb (ix2 r l) = (ix2 (posAt t r) l : S4096x128.Idx) := by
    funext a; apply Fin.ext
    match a with
    | ⟨0, _⟩ => show win0_6.index t (0 : Fin 2) * 1024 + 1 * r.val = 1024 * (t.val / 8) + r.val; omega
    | ⟨1, _⟩ => show win0_6.index t (1 : Fin 2) * 128 + 1 * l.val = l.val; omega
  show (V m c main_v59 : Vec Ideal S4096x128 .f32) (((cfg0.win 6).blk t).view.emb (ix2 r l)) = _
  rw [he, V_v59]

theorem blk7 (r : Fin 1024) (l : Fin 128) :
    (iblk m c 7 t : Vec Ideal S1024x128 .f32) (ix2 r l) = repeated (val_main_v125 (F := Ideal)) (ix2 (posAt t r) l) := by
  obtain ⟨-, -, ⟨e0, e1⟩, -⟩ := idx_tables t
  have he : ((cfg0.win 7).blk t).view.emb (ix2 r l) = (ix2 (posAt t r) l : S4096x128.Idx) := by
    funext a; apply Fin.ext
    match a with
    | ⟨0, _⟩ => show win0_7.index t (0 : Fin 2) * 1024 + 1 * r.val = 1024 * (t.val / 8) + r.val; omega
    | ⟨1, _⟩ => show win0_7.index t (1 : Fin 2) * 128 + 1 * l.val = l.val; omega
  show (V m c main_v64 : Vec Ideal S4096x128 .f32) (((cfg0.win 7).blk t).view.emb (ix2 r l)) = _
  rw [he, V_v64]

theorem blk8 (r : Fin 1024) (l : Fin 128) :
    (iblk m c 8 t : Vec Ideal S1024x128 .f32) (ix2 r l) = signed (val_main_v127 (F := Ideal)) (ix2 (posAt t r) l) := by
  obtain ⟨-, -, -, ⟨e0, e1⟩, -⟩ := idx_tables t
  have he : ((cfg0.win 8).blk t).view.emb (ix2 r l) = (ix2 (posAt t r) l : S4096x128.Idx) := by
    funext a; apply Fin.ext
    match a with
    | ⟨0, _⟩ => show win0_8.index t (0 : Fin 2) * 1024 + 1 * r.val = 1024 * (t.val / 8) + r.val; omega
    | ⟨1, _⟩ => show win0_8.index t (1 : Fin 2) * 128 + 1 * l.val = l.val; omega
  show (V m c main_v67 : Vec Ideal S4096x128 .f32) (((cfg0.win 8).blk t).view.emb (ix2 r l)) = _
  rw [he, V_v67]

theorem blk9 (r : Fin 1024) (l : Fin 128) :
    (iblk m c 9 t : Vec Ideal S1024x128 .f32) (ix2 r l) = repeated (val_main_v125 (F := Ideal)) (ix2 (posAt t r) l) := by
  obtain ⟨-, -, -, -, ⟨e0, e1⟩, -⟩ := idx_tables t
  have he : ((cfg0.win 9).blk t).view.emb (ix2 r l) = (ix2 (posAt t r) l : S4096x128.Idx) := by
    funext a; apply Fin.ext
    match a with
    | ⟨0, _⟩ => show win0_9.index t (0 : Fin 2) * 1024 + 1 * r.val = 1024 * (t.val / 8) + r.val; omega
    | ⟨1, _⟩ => show win0_9.index t (1 : Fin 2) * 128 + 1 * l.val = l.val; omega
  show (V m c main_v72 : Vec Ideal S4096x128 .f32) (((cfg0.win 9).blk t).view.emb (ix2 r l)) = _
  rw [he, V_v72]

theorem blk10 (r : Fin 1024) (l : Fin 128) :
    (iblk m c 10 t : Vec Ideal S1024x128 .f32) (ix2 r l) = signed (val_main_v127 (F := Ideal)) (ix2 (posAt t r) l) := by
  obtain ⟨-, -, -, -, -, e0, e1⟩ := idx_tables t
  have he : ((cfg0.win 10).blk t).view.emb (ix2 r l) = (ix2 (posAt t r) l : S4096x128.Idx) := by
    funext a; apply Fin.ext
    match a with
    | ⟨0, _⟩ => show win0_10.index t (0 : Fin 2) * 1024 + 1 * r.val = 1024 * (t.val / 8) + r.val; omega
    | ⟨1, _⟩ => show win0_10.index t (1 : Fin 2) * 128 + 1 * l.val = l.val; omega
  show (V m c main_v75 : Vec Ideal S4096x128 .f32) (((cfg0.win 10).blk t).view.emb (ix2 r l)) = _
  rw [he, V_v75]

/-! ## The projected entries and the normalised lanes -/

/-- An entry of the projected block is the reference's, in the weights' own order. -/
theorem entry_at (r : Fin 1024) (e e' : Fin 1536) (h : column e.val = e'.val) :
    entry (iblk m c 0 t) (iblk m c 1 t) (iblk m c 2 t) r e = val_main_v52 (F := Ideal) (a0 m c) (a1 m c) (a2 m c) (ix3 (batchAt t) (posAt t r) e') := by
  rw [ref_proj]
  unfold entry
  simp only [blk0, blk1, blk2, h]

/-- The normalised query lanes are the reference's normalised queries. -/
theorem queryLanes_at (r : Fin 1024) (j : Fin 4) (l : Fin 128) :
    queryLanes (iblk m c 0 t) (iblk m c 1 t) (iblk m c 2 t) (iblk m c 3 t) (iblk m c 4 t) r j l
      = val_main_v73 (F := Ideal) (a0 m c) (a1 m c) (a2 m c) (a3 m c)
          (ix4 (batchAt t) (posAt t r) ⟨j.val + 4 * (l.val / 32 % 2), by omega⟩ ⟨place l.val, place_lt _⟩) := by
  unfold queryLanes
  rw [groupNorm_eq (lanes (n := 256) (H := 4) 2 rfl rfl)
    (fun g d => val_main_v59 (F := Ideal) (a0 m c) (a1 m c) (a2 m c) (ix4 (batchAt t) (posAt t r) ⟨2 * (j.val / 2) + g.val / 2 + 4 * (g.val % 2), by omega⟩ d))
    (fun d => a3 m c (ix2 0 d)) _ _ _ (fun k => ?_) (fun k => ?_) (fun k l => ?_)]
  · rw [← ref_norm_a]
    refine congrArg (val_main_v73 (F := Ideal) (a0 m c) (a1 m c) (a2 m c) (a3 m c)) (congrArg₂ (ix4 (batchAt t) (posAt t r)) (Fin.ext ?_) (Fin.ext ?_))
    · simp only [lanes, Equiv.coe_fn_mk, group]; omega
    · simp only [lanes, Equiv.coe_fn_mk, place]; omega
  · rw [ref_head_a]
    refine entry_at m c t r _ _ ?_
    simp only [lanes, Equiv.coe_fn_mk, column, group, place]
    split_ifs <;> omega
  · have e : (⟨256 * (j.val / 2) + k.val, by omega⟩ : Fin 640) = ⟨128 * (⟨2 * (j.val / 2) + k.val / 128, by omega⟩ : Fin 4).val + (⟨k.val % 128, by omega⟩ : Fin 128).val, by dsimp only; omega⟩ := by
      apply Fin.ext; dsimp only; omega
    rw [e, blk3_query]
    refine congrArg (a3 m c) (congrArg (ix2 0) (Fin.ext ?_))
    simp only [lanes, Equiv.coe_fn_mk, place]; omega
  · rw [blk4]
    refine if_congr ?_ rfl rfl
    simp only [lanes, Equiv.coe_fn_mk, Fin.mk.injEq]

/-- The normalised key lanes are the reference's normalised keys. -/
theorem keyLanes_at (r : Fin 1024) (l : Fin 128) :
    keyLanes (iblk m c 0 t) (iblk m c 1 t) (iblk m c 2 t) (iblk m c 3 t) (iblk m c 4 t) r l
      = val_main_v105 (F := Ideal) (a0 m c) (a1 m c) (a2 m c) (a4 m c)
          (ix4 (batchAt t) (posAt t r) ⟨l.val / 32 % 2, by omega⟩ ⟨place l.val, place_lt _⟩) := by
  unfold keyLanes
  rw [groupNorm_eq (lanes (n := 128) (H := 2) 1 rfl rfl)
    (fun g d => val_main_v91 (F := Ideal) (a0 m c) (a1 m c) (a2 m c) (ix4 (batchAt t) (posAt t r) g d))
    (fun d => a4 m c (ix2 0 d)) _ _ _ (fun k => ?_) (fun k => ?_) (fun k l => ?_)]
  · rw [← ref_norm_ka]
    refine congrArg (val_main_v105 (F := Ideal) (a0 m c) (a1 m c) (a2 m c) (a4 m c)) (congrArg₂ (ix4 (batchAt t) (posAt t r)) (Fin.ext ?_) (Fin.ext ?_))
    · simp only [lanes, Equiv.coe_fn_mk, group]; omega
    · simp only [lanes, Equiv.coe_fn_mk]
  · rw [ref_head_ka]
    refine entry_at m c t r _ _ ?_
    simp only [lanes, Equiv.coe_fn_mk, column, group, place]
    split_ifs <;> omega
  · rw [blk3_key]
    simp only [lanes, Equiv.coe_fn_mk]
  · rw [blk4]
    refine if_congr ?_ rfl rfl
    simp only [lanes, Equiv.coe_fn_mk, Fin.mk.injEq]

end Cert.ProjIdeal.Hand
-- ==== Proof.Proj.Points.lean ====
/- What a grid point of the projection call leaves in its six output blocks: the reference's queries, keys and values. -/
module

public import proofs.«01_k».proof.Proof.Proj.Blocks
public import proofs.«01_k».proof.Proof.Proj.Heads

@[expose] public section

set_option maxRecDepth 16384

noncomputable section

namespace Cert.ProjIdeal.Hand

open Cert.ProjIdeal Cert.ProjIdeal.Gen Cert.ProjRows
open Cert.ProjReferenceIdeal.Read Cert.ProjReferenceIdeal.Hand
open Idealize.ShloMosaic Idealize.ShloMosaic.TcCoe Idealize.SL.Sem

variable (m : (ℓ : Loc nD τ sig) → Buf (Elt Ideal) ℓ) (c : Dev nD) (t : Fin cfg0.N)

/-- The lane of a block that holds entry `d` of head `h`: four groups of two heads, `j + 4 g` being head `g` of group
    `j`, and a head's two halves 64 lanes apart. -/
def laneOf (h d : ℕ) : ℕ := 128 * (h % 4) + (64 * (d / 32) + 32 * (h / 4) + d % 32)

/-- A rotated block of lanes is the rotated head, both halves of it, when the lanes and the tables are the head's. -/
theorem turned (g : Fin 2) (t : Fin 64 → EReal) (C S : Fin 32 → EReal) (T cos sin : Fin 128 → EReal) (f : Fin 64 → EReal)
    (h1 : ∀ p : Fin 32, T ⟨32 * g.val + p.val, by omega⟩ = t ⟨p.val, by omega⟩)
    (h2 : ∀ p : Fin 32, T ⟨64 + 32 * g.val + p.val, by omega⟩ = t ⟨32 + p.val, by omega⟩)
    (c1 : ∀ p : Fin 32, cos ⟨32 * g.val + p.val, by omega⟩ = C p) (c2 : ∀ p : Fin 32, cos ⟨64 + 32 * g.val + p.val, by omega⟩ = C p)
    (s1 : ∀ p : Fin 32, sin ⟨32 * g.val + p.val, by omega⟩ = -S p) (s2 : ∀ p : Fin 32, sin ⟨64 + 32 * g.val + p.val, by omega⟩ = S p)
    (f1 : ∀ p : Fin 32, f ⟨p.val, by omega⟩ = turnLow t C S p) (f2 : ∀ p : Fin 32, f ⟨32 + p.val, by omega⟩ = turnHigh t C S p)
    (d : Fin 64) : turn T cos sin ⟨64 * (d.val / 32) + 32 * g.val + d.val % 32, by omega⟩ = f d := by
  by_cases hd : d.val < 32
  · refine (congrArg (turn T cos sin) (Fin.ext ?_)).trans ((turn_low g t C S T cos sin h1 h2 ⟨d.val, hd⟩ (c1 _) (s1 _)).trans (f1 ⟨d.val, hd⟩).symm)
    dsimp only; omega
  · refine (congrArg (turn T cos sin) (Fin.ext ?_)).trans ((turn_high g t C S T cos sin h1 h2 ⟨d.val - 32, by omega⟩ (c2 _) (s2 _)).trans
      ((f2 ⟨d.val - 32, by omega⟩).symm.trans (congrArg f (Fin.ext ?_))))
    · dsimp only; omega
    · dsimp only; omega

/-- Head `h`'s place among the two of its group, as one number. -/
abbrev second (h : Fin 8) : Fin 2 := ⟨h.val / 4, by omega⟩

theorem point_queries_a (r : Fin 1024) (h : Fin 8) (d : Fin 64) :
    (outsAt0 m c t).1 (ix3 0 r ⟨laneOf h.val d.val, by unfold laneOf; omega⟩)
      = val_main_v161 (F := Ideal) (a0 m c) (a1 m c) (a2 m c) (a3 m c) (ix4 (batchAt t) (posAt t r) h d) := by
  unfold outsAt0 laneOf
  dsimp only
  rw [body_queries_a (j := ⟨h.val % 4, by omega⟩) (l := ⟨64 * (d.val / 32) + 32 * (second h).val + d.val % 32, by omega⟩)]
  have lanes_at (l : Fin 128) (e : Fin 64) (hh : h.val = h.val % 4 + 4 * (l.val / 32 % 2)) (he : place l.val = e.val) :
      queryLanes (iblk m c 0 t) (iblk m c 1 t) (iblk m c 2 t) (iblk m c 3 t) (iblk m c 4 t) r ⟨h.val % 4, by omega⟩ l
        = val_main_v73 (F := Ideal) (a0 m c) (a1 m c) (a2 m c) (a3 m c) (ix4 (batchAt t) (posAt t r) h e) :=
    (queryLanes_at m c t r _ l).trans (congrArg (val_main_v73 (F := Ideal) (a0 m c) (a1 m c) (a2 m c) (a3 m c))
      (congrArg₂ (ix4 (batchAt t) (posAt t r)) (Fin.ext hh.symm) (Fin.ext he)))
  simp only [blk5, blk6]
  refine turned (second h) (fun d => val_main_v73 (F := Ideal) (a0 m c) (a1 m c) (a2 m c) (a3 m c) (ix4 (batchAt t) (posAt t r) h d))
    (fun p => val_main_v74 (F := Ideal) (ix2 (posAt t r) p)) (fun p => val_main_v76 (F := Ideal) (ix2 (posAt t r) p)) _ _ _
    (fun d => val_main_v161 (F := Ideal) (a0 m c) (a1 m c) (a2 m c) (a3 m c) (ix4 (batchAt t) (posAt t r) h d)) (fun p => ?_) (fun p => ?_)
    (repeated_low _ _ (second h)) (repeated_high _ _ (second h)) (signed_low _ _ (second h)) (signed_high _ _ (second h))
    (fun p => ref_low_a (a0 m c) (a1 m c) (a2 m c) (a3 m c) _ _ h p) (fun p => ref_high_a (a0 m c) (a1 m c) (a2 m c) (a3 m c) _ _ h p) d
  · exact lanes_at _ _ (by dsimp only; omega) (by dsimp only [place]; omega)
  · exact lanes_at _ _ (by dsimp only; omega) (by dsimp only [place]; omega)

theorem point_keys_a (r : Fin 1024) (h : Fin 2) (d : Fin 64) :
    (outsAt0 m c t).2.1 (ix3 0 r ⟨64 * (d.val / 32) + 32 * h.val + d.val % 32, by omega⟩)
      = val_main_v162 (F := Ideal) (a0 m c) (a1 m c) (a2 m c) (a4 m c) (ix4 (batchAt t) (posAt t r) h d) := by
  unfold outsAt0
  dsimp only
  rw [body_keys_a]
  have lanes_at (l : Fin 128) (e : Fin 64) (hh : h.val = l.val / 32 % 2) (he : place l.val = e.val) :
      keyLanes (iblk m c 0 t) (iblk m c 1 t) (iblk m c 2 t) (iblk m c 3 t) (iblk m c 4 t) r l
        = val_main_v105 (F := Ideal) (a0 m c) (a1 m c) (a2 m c) (a4 m c) (ix4 (batchAt t) (posAt t r) h e) :=
    (keyLanes_at m c t r l).trans (congrArg (val_main_v105 (F := Ideal) (a0 m c) (a1 m c) (a2 m c) (a4 m c))
      (congrArg₂ (ix4 (batchAt t) (posAt t r)) (Fin.ext hh.symm) (Fin.ext he)))
  simp only [blk5, blk6]
  refine turned h (fun d => val_main_v105 (F := Ideal) (a0 m c) (a1 m c) (a2 m c) (a4 m c) (ix4 (batchAt t) (posAt t r) h d))
    (fun p => val_main_v74 (F := Ideal) (ix2 (posAt t r) p)) (fun p => val_main_v76 (F := Ideal) (ix2 (posAt t r) p)) _ _ _
    (fun d => val_main_v162 (F := Ideal) (a0 m c) (a1 m c) (a2 m c) (a4 m c) (ix4 (batchAt t) (posAt t r) h d)) (fun p => ?_) (fun p => ?_)
    (repeated_low _ _ h) (repeated_high _ _ h) (signed_low _ _ h) (signed_high _ _ h)
    (fun p => ref_low_ka (a0 m c) (a1 m c) (a2 m c) (a4 m c) _ _ h p) (fun p => ref_high_ka (a0 m c) (a1 m c) (a2 m c) (a4 m c) _ _ h p) d
  · exact lanes_at _ _ (by dsimp only; omega) (by dsimp only [place]; omega)
  · exact lanes_at _ _ (by dsimp only; omega) (by dsimp only [place]; omega)

theorem point_values_a (k : Fin 4) (h : Fin 2) (d : Fin 64) (q : Fin 256) :
    (outsAt0 m c t).2.2.1 (ix4 0 k ⟨80 * h.val + d.val, by omega⟩ q)
      = val_main_v163 (F := Ideal) (a0 m c) (a1 m c) (a2 m c) (ix4 (batchAt t) (posAt t ⟨256 * k.val + q.val, by omega⟩) h d) :=
  (body_values_a c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) k h d q).trans
    ((entry_at m c t _ _ ⟨640 + 64 * h.val + d.val, by omega⟩ (by dsimp only [column, place]; split_ifs <;> omega)).trans
      (ref_value_a _ _ _ _ _ h d).symm)

/-- The weight column of a lane of the second mixer's queries: half `k` of head `x + 4 g`, entry `p` of it. -/
theorem column_query (x g k p : ℕ) (hx : x < 4) (hg : g < 2) (hk : k < 2) (hp : p < 32) :
    column (768 + 128 * x + (64 * k + 32 * g + p)) = 768 + 64 * (x + 4 * g) + (32 * k + p) := by
  have e1 : (768 + 128 * x + (64 * k + 32 * g + p) - 768) / 128 = x := by omega
  have e2 : (768 + 128 * x + (64 * k + 32 * g + p)) / 32 = 2 * (12 + 2 * x + k) + g := by omega
  have e3 : (768 + 128 * x + (64 * k + 32 * g + p)) / 64 = 2 * (6 + x) + k := by omega
  have e4 : (768 + 128 * x + (64 * k + 32 * g + p)) % 32 = p := by omega
  unfold column place
  rw [if_neg (by omega), if_neg (by omega), if_neg (by omega), if_pos (by omega), e1, e2, e3, e4]
  omega

theorem point_queries_b (r : Fin 1024) (h : Fin 8) (d : Fin 64) :
    (outsAt0 m c t).2.2.2.1 (ix3 0 r ⟨laneOf h.val d.val, by unfold laneOf; omega⟩)
      = val_main_v164 (F := Ideal) (a0 m c) (a1 m c) (a2 m c) (ix4 (batchAt t) (posAt t r) h d) := by
  unfold outsAt0 laneOf
  dsimp only
  rw [body_queries_b (j := ⟨h.val % 4, by omega⟩) (l := ⟨64 * (d.val / 32) + 32 * (second h).val + d.val % 32, by omega⟩)]
  have lanes_at (l : Fin 1536) (e : Fin 64) (hh : column l.val = 768 + 64 * h.val + e.val) :
      entry (iblk m c 0 t) (iblk m c 1 t) (iblk m c 2 t) r l
        = val_main_v124 (F := Ideal) (a0 m c) (a1 m c) (a2 m c) (ix4 (batchAt t) (posAt t r) h e) :=
    (entry_at m c t r l ⟨768 + 64 * h.val + e.val, by omega⟩ hh).trans (ref_head_b _ _ _ _ _ h e).symm
  simp only [blk7, blk8]
  refine turned (second h) (fun d => val_main_v124 (F := Ideal) (a0 m c) (a1 m c) (a2 m c) (ix4 (batchAt t) (posAt t r) h d))
    (fun p => val_main_v125 (F := Ideal) (ix2 (posAt t r) p)) (fun p => val_main_v127 (F := Ideal) (ix2 (posAt t r) p)) _ _ _
    (fun d => val_main_v164 (F := Ideal) (a0 m c) (a1 m c) (a2 m c) (ix4 (batchAt t) (posAt t r) h d)) (fun p => ?_) (fun p => ?_)
    (repeated_low _ _ (second h)) (repeated_high _ _ (second h)) (signed_low _ _ (second h)) (signed_high _ _ (second h))
    (fun p => ref_low_b (a0 m c) (a1 m c) (a2 m c) _ _ h p) (fun p => ref_high_b (a0 m c) (a1 m c) (a2 m c) _ _ h p) d
  · exact lanes_at _ _ ((congrArg column (by dsimp only <;> omega)).trans ((column_query (h.val % 4) (h.val / 4) 0 p.val (by omega) (by omega) (by omega) p.isLt).trans (by dsimp only; omega)))
  · exact lanes_at _ _ ((congrArg column (by dsimp only <;> omega)).trans ((column_query (h.val % 4) (h.val / 4) 1 p.val (by omega) (by omega) (by omega) p.isLt).trans (by dsimp only; omega)))

theorem point_keys_b (r : Fin 1024) (h : Fin 2) (d : Fin 64) :
    (outsAt0 m c t).2.2.2.2.1 (ix3 0 r ⟨64 * (d.val / 32) + 32 * h.val + d.val % 32, by omega⟩)
      = val_main_v165 (F := Ideal) (a0 m c) (a1 m c) (a2 m c) (ix4 (batchAt t) (posAt t r) h d) := by
  unfold outsAt0
  dsimp only
  rw [body_keys_b]
  have lanes_at (l : Fin 1536) (e : Fin 64) (hh : column l.val = 1280 + 64 * h.val + e.val) :
      entry (iblk m c 0 t) (iblk m c 1 t) (iblk m c 2 t) r l
        = val_main_v142 (F := Ideal) (a0 m c) (a1 m c) (a2 m c) (ix4 (batchAt t) (posAt t r) h e) :=
    (entry_at m c t r l ⟨1280 + 64 * h.val + e.val, by omega⟩ hh).trans (ref_head_kb _ _ _ _ _ h e).symm
  simp only [blk9, blk10]
  refine turned h (fun d => val_main_v142 (F := Ideal) (a0 m c) (a1 m c) (a2 m c) (ix4 (batchAt t) (posAt t r) h d))
    (fun p => val_main_v125 (F := Ideal) (ix2 (posAt t r) p)) (fun p => val_main_v127 (F := Ideal) (ix2 (posAt t r) p)) _ _ _
    (fun d => val_main_v165 (F := Ideal) (a0 m c) (a1 m c) (a2 m c) (ix4 (batchAt t) (posAt t r) h d)) (fun p => ?_) (fun p => ?_)
    (repeated_low _ _ h) (repeated_high _ _ h) (signed_low _ _ h) (signed_high _ _ h)
    (fun p => ref_low_kb (a0 m c) (a1 m c) (a2 m c) _ _ h p) (fun p => ref_high_kb (a0 m c) (a1 m c) (a2 m c) _ _ h p) d
  · exact lanes_at _ _ (by dsimp only [column, place]; split_ifs <;> omega)
  · exact lanes_at _ _ (by dsimp only [column, place]; split_ifs <;> omega)

theorem point_values_b (k : Fin 8) (h : Fin 2) (d : Fin 64) (q : Fin 128) :
    (outsAt0 m c t).2.2.2.2.2 (ix4 0 k ⟨80 * h.val + d.val, by omega⟩ q)
      = val_main_v166 (F := Ideal) (a0 m c) (a1 m c) (a2 m c) (ix4 (batchAt t) (posAt t ⟨128 * k.val + q.val, by omega⟩) h d) :=
  (body_values_b c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) k h d q).trans
    ((entry_at m c t _ _ ⟨1408 + 64 * h.val + d.val, by omega⟩ (by dsimp only [column, place]; split_ifs <;> omega)).trans
      (ref_value_b _ _ _ _ _ h d).symm)

end Cert.ProjIdeal.Hand
-- ==== Proof.Proj.Layout.lean ====
/- The projection call's arrays put together from its blocks, and the host lines after it read at an entry. -/
module

public import proofs.«01_k».proof.Proof.Proj.Host

@[expose] public section

set_option maxRecDepth 16384

noncomputable section

namespace Cert.ProjIdeal.Hand

open Cert.ProjIdeal Cert.ProjIdeal.Gen
open Idealize.ShloMosaic Idealize.ShloMosaic.TcCoe Idealize.SL.Sem

/-! ## From an array in the call's layout to heads -/

/-- The eight query heads of a 512-lane row: halves of a head lie 64 lanes apart. -/
def eightHeads (X : FVec Ideal S8x4096x512 .bf16) : FVec Ideal S8x4096x8x64 .bf16 :=
  shapeCast _ (transpose S8x4096x2x4x2x32 [0, 1, 4, 2, 3, 5] (shapeCast _ X shapeCasts_S8x4096x512_S8x4096x4x2x2x32)
    transposes_S8x4096x4x2x2x32_S8x4096x2x4x2x32_0_1_4_2_3_5) shapeCasts_S8x4096x2x4x2x32_S8x4096x8x64

/-- The two key heads of a 128-lane row. -/
def twoHeads (X : FVec Ideal S8x4096x128 .bf16) : FVec Ideal S8x4096x2x64 .bf16 :=
  shapeCast _ (transpose S8x4096x2x1x2x32 [0, 1, 4, 2, 3, 5] (shapeCast _ X shapeCasts_S8x4096x128_S8x4096x1x2x2x32)
    transposes_S8x4096x1x2x2x32_S8x4096x2x1x2x32_0_1_4_2_3_5) shapeCasts_S8x4096x2x1x2x32_S8x4096x2x64

/-- The values out of 256-position columns: each head's first 64 of 80 rows, transposed. -/
def wideColumns (X : FVec Ideal S8x16x160x256 .bf16) : FVec Ideal S8x4096x2x64 .bf16 :=
  shapeCast _ (transpose S8x16x256x2x64 [0, 1, 4, 2, 3] (extractStridedSlice S8x16x2x64x256 ![0, 0, 0, 0, 0]
    (shapeCast _ X shapeCasts_S8x16x160x256_S8x16x2x80x256) slices_S8x16x2x80x256_S8x16x2x64x256_0_0_0_0_0)
    transposes_S8x16x2x64x256_S8x16x256x2x64_0_1_4_2_3) shapeCasts_S8x16x256x2x64_S8x4096x2x64

/-- The values out of 128-position columns. -/
def narrowColumns (X : FVec Ideal S8x32x160x128 .bf16) : FVec Ideal S8x4096x2x64 .bf16 :=
  shapeCast _ (transpose S8x32x128x2x64 [0, 1, 4, 2, 3] (extractStridedSlice S8x32x2x64x128 ![0, 0, 0, 0, 0]
    (shapeCast _ X shapeCasts_S8x32x160x128_S8x32x2x80x128) slices_S8x32x2x80x128_S8x32x2x64x128_0_0_0_0_0)
    transposes_S8x32x2x64x128_S8x32x128x2x64_0_1_4_2_3) shapeCasts_S8x32x128x2x64_S8x4096x2x64

theorem eightHeads_apply (X : FVec Ideal S8x4096x512 .bf16) (b : Fin 8) (s : Fin 4096) (h : Fin 8) (d : Fin 64) :
    eightHeads X (ix4 b s h d) = X (ix3 b s ⟨128 * (h.val % 4) + (64 * (d.val / 32) + 32 * (h.val / 4) + d.val % 32), by omega⟩) := by
  pointwise [eightHeads]
  refine congrArg X (funext fun a => Fin.ext ?_)
  match a with
  | ⟨0, _⟩ => dsimp; try omega
  | ⟨1, _⟩ => dsimp; try omega
  | ⟨2, _⟩ => dsimp; omega

theorem twoHeads_apply (X : FVec Ideal S8x4096x128 .bf16) (b : Fin 8) (s : Fin 4096) (h : Fin 2) (d : Fin 64) :
    twoHeads X (ix4 b s h d) = X (ix3 b s ⟨64 * (d.val / 32) + 32 * h.val + d.val % 32, by omega⟩) := by
  pointwise [twoHeads]
  refine congrArg X (funext fun a => Fin.ext ?_)
  match a with
  | ⟨0, _⟩ => dsimp; try omega
  | ⟨1, _⟩ => dsimp; try omega
  | ⟨2, _⟩ => dsimp; omega

theorem wideColumns_apply (X : FVec Ideal S8x16x160x256 .bf16) (b : Fin 8) (s : Fin 4096) (h : Fin 2) (d : Fin 64) :
    wideColumns X (ix4 b s h d) = X (ix4 b ⟨s.val / 256, by omega⟩ ⟨80 * h.val + d.val, by omega⟩ ⟨s.val % 256, by omega⟩) := by
  pointwise [wideColumns]
  refine congrArg X (funext fun a => Fin.ext ?_)
  match a with
  | ⟨0, _⟩ => dsimp; try omega
  | ⟨1, _⟩ => dsimp; try omega
  | ⟨2, _⟩ => dsimp; try omega
  | ⟨3, _⟩ => dsimp; try omega

theorem narrowColumns_apply (X : FVec Ideal S8x32x160x128 .bf16) (b : Fin 8) (s : Fin 4096) (h : Fin 2) (d : Fin 64) :
    narrowColumns X (ix4 b s h d) = X (ix4 b ⟨s.val / 128, by omega⟩ ⟨80 * h.val + d.val, by omega⟩ ⟨s.val % 128, by omega⟩) := by
  pointwise [narrowColumns]
  refine congrArg X (funext fun a => Fin.ext ?_)
  match a with
  | ⟨0, _⟩ => dsimp; try omega
  | ⟨1, _⟩ => dsimp; try omega
  | ⟨2, _⟩ => dsimp; try omega
  | ⟨3, _⟩ => dsimp; try omega

/-! ## From blocks to an array

Grid point `t` is row tile `t / 8` of batch `t % 8`. -/

/-- The grid point of a batch's row tile. -/
def tile (b k : ℕ) (hb : b < 8) (hk : k < 4) : Fin cfg0.N := ⟨8 * k + b, show 8 * k + b < 32 by omega⟩

/-- An array of rows, 1024 of them from each grid point's block. -/
def rowsOf {n : ℕ} (X : Fin cfg0.N → (⟨3, ![1, 1024, n]⟩ : Shape).Idx → EReal) (i : (⟨3, ![8, 4096, n]⟩ : Shape).Idx) : EReal :=
  have h1 : (i 1).val < 4096 := (i 1).isLt
  X (tile (i 0).val ((i 1).val / 1024) (i 0).isLt (by omega)) (ix3 0 ⟨(i 1).val % 1024, by omega⟩ (i 2))

theorem rowsOf_block {n : ℕ} (X : Fin cfg0.N → (⟨3, ![1, 1024, n]⟩ : Shape).Idx → EReal) (t : Fin cfg0.N)
    (j : (⟨3, ![1, 1024, n]⟩ : Shape).Idx) (i : (⟨3, ![8, 4096, n]⟩ : Shape).Idx) (h0 : (i 0).val = t.val % 8)
    (h1 : (i 1).val = 1024 * (t.val / 8) + (j 1).val) (h2 : (i 2).val = (j 2).val) : X t j = rowsOf X i := by
  have ht : t.val < 32 := t.isLt
  have hj : (j 1).val < 1024 := (j 1).isLt
  have hj0 : (j 0).val < 1 := (j 0).isLt
  have e : tile (i 0).val ((i 1).val / 1024) (i 0).isLt (by omega) = t :=
    Fin.ext (by show 8 * ((i 1).val / 1024) + (i 0).val = t.val; omega)
  unfold rowsOf
  dsimp only
  rw [e]
  refine congrArg (X t) (funext fun a => Fin.ext ?_)
  match a with
  | ⟨0, _⟩ => show (j 0).val = 0; omega
  | ⟨1, _⟩ => show (j 1).val = (i 1).val % 1024; omega
  | ⟨2, _⟩ => exact h2.symm

/-- An array of column stacks, `k` of them from each grid point's block. -/
def columnsOf {k q : ℕ} (hk : 0 < k) (X : Fin cfg0.N → (⟨4, ![1, k, 160, q]⟩ : Shape).Idx → EReal)
    (i : (⟨4, ![8, k * 4, 160, q]⟩ : Shape).Idx) : EReal :=
  X (tile (i 0).val ((i 1).val / k) (i 0).isLt (Nat.div_lt_of_lt_mul (i 1).isLt)) (ix4 0 ⟨(i 1).val % k, Nat.mod_lt _ hk⟩ (i 2) (i 3))

theorem columnsOf_block {k q : ℕ} (hk : 0 < k) (X : Fin cfg0.N → (⟨4, ![1, k, 160, q]⟩ : Shape).Idx → EReal) (t : Fin cfg0.N)
    (j : (⟨4, ![1, k, 160, q]⟩ : Shape).Idx) (i : (⟨4, ![8, k * 4, 160, q]⟩ : Shape).Idx) (h0 : (i 0).val = t.val % 8)
    (h1 : (i 1).val = k * (t.val / 8) + (j 1).val) (h2 : (i 2).val = (j 2).val) (h3 : (i 3).val = (j 3).val) :
    X t j = columnsOf hk X i := by
  have hj : (j 1).val < k := (j 1).isLt
  have hj0 : (j 0).val < 1 := (j 0).isLt
  have hd : (i 1).val / k = t.val / 8 := by rw [h1, Nat.mul_add_div hk, Nat.div_eq_of_lt hj, Nat.add_zero]
  have hm : (i 1).val % k = (j 1).val := by rw [h1, Nat.mul_add_mod, Nat.mod_eq_of_lt hj]
  have e : tile (i 0).val ((i 1).val / k) (i 0).isLt (Nat.div_lt_of_lt_mul (i 1).isLt) = t :=
    Fin.ext (by show 8 * ((i 1).val / k) + (i 0).val = t.val; omega)
  unfold columnsOf
  rw [e]
  refine congrArg (X t) (funext fun a => Fin.ext ?_)
  match a with
  | ⟨0, _⟩ => show (j 0).val = 0; omega
  | ⟨1, _⟩ => exact hm.symm
  | ⟨2, _⟩ => exact h2.symm
  | ⟨3, _⟩ => exact h3.symm

end Cert.ProjIdeal.Hand
-- ==== Proof.Proj.Value.lean ====
/- What the projection program computes: its six results are the reference's. -/
module

public import proofs.«01_k».proof.Proof.Proj.Points
public import proofs.«01_k».proof.Proof.Proj.Layout

@[expose] public section

set_option maxRecDepth 16384

noncomputable section

namespace Cert.ProjIdeal.Hand

open Cert.ProjIdeal Cert.ProjIdeal.Gen Cert.ProjRows
open Cert.ProjReferenceIdeal.Read
open Idealize.ShloMosaic Idealize.ShloMosaic.TcCoe Idealize.SL.Sem

variable (m : (ℓ : Loc nD τ sig) → Buf (Elt Ideal) ℓ) (ρ : Dev nD → PrngReg)

/-! ## Where the output blocks lie -/

theorem idx_rows : ∀ t : Fin cfg0.N,
    (win0_11.index t (0 : Fin 3) = t.val % 8 ∧ win0_11.index t (1 : Fin 3) = t.val / 8 ∧ win0_11.index t (2 : Fin 3) = 0)
    ∧ (win0_12.index t (0 : Fin 3) = t.val % 8 ∧ win0_12.index t (1 : Fin 3) = t.val / 8 ∧ win0_12.index t (2 : Fin 3) = 0)
    ∧ (win0_14.index t (0 : Fin 3) = t.val % 8 ∧ win0_14.index t (1 : Fin 3) = t.val / 8 ∧ win0_14.index t (2 : Fin 3) = 0)
    ∧ (win0_15.index t (0 : Fin 3) = t.val % 8 ∧ win0_15.index t (1 : Fin 3) = t.val / 8 ∧ win0_15.index t (2 : Fin 3) = 0) :=
  (by decide +kernel : ∀ t : Fin grid0.N, _)
theorem idx_columns : ∀ t : Fin cfg0.N,
    (win0_13.index t (0 : Fin 4) = t.val % 8 ∧ win0_13.index t (1 : Fin 4) = t.val / 8 ∧ win0_13.index t (2 : Fin 4) = 0 ∧ win0_13.index t (3 : Fin 4) = 0)
    ∧ (win0_16.index t (0 : Fin 4) = t.val % 8 ∧ win0_16.index t (1 : Fin 4) = t.val / 8 ∧ win0_16.index t (2 : Fin 4) = 0 ∧ win0_16.index t (3 : Fin 4) = 0) :=
  (by decide +kernel : ∀ t : Fin grid0.N, _)

/-- Blocks of rows reach every entry of their array. -/
theorem rows_reach {n : ℕ} (f : Fin cfg0.N → (⟨3, ![1, 1024, n]⟩ : Shape).Idx → (⟨3, ![8, 4096, n]⟩ : Shape).Idx)
    (hf : ∀ t j, (f t j 0).val = t.val % 8 ∧ (f t j 1).val = 1024 * (t.val / 8) + (j 1).val ∧ (f t j 2).val = (j 2).val)
    (i : (⟨3, ![8, 4096, n]⟩ : Shape).Idx) : ∃ t j, f t j = i := by
  have h0 : (i 0).val < 8 := (i 0).isLt
  have h1 : (i 1).val < 4096 := (i 1).isLt
  refine ⟨⟨8 * ((i 1).val / 1024) + (i 0).val, show _ < 32 by omega⟩, ix3 0 ⟨(i 1).val % 1024, by omega⟩ (i 2), funext fun a => Fin.ext ?_⟩
  obtain ⟨e0, e1, e2⟩ := hf ⟨8 * ((i 1).val / 1024) + (i 0).val, show _ < 32 by omega⟩ (ix3 0 ⟨(i 1).val % 1024, by omega⟩ (i 2))
  match a with
  | ⟨0, _⟩ => refine e0.trans ?_; show (8 * ((i 1).val / 1024) + (i 0).val) % 8 = (i 0).val; omega
  | ⟨1, _⟩ => refine e1.trans ?_; show 1024 * ((8 * ((i 1).val / 1024) + (i 0).val) / 8) + (i 1).val % 1024 = (i 1).val; omega
  | ⟨2, _⟩ => exact e2

/-- Blocks of column stacks reach every entry of their array. -/
theorem columns_reach {k q : ℕ} (hk : 0 < k) (f : Fin cfg0.N → (⟨4, ![1, k, 160, q]⟩ : Shape).Idx → (⟨4, ![8, k * 4, 160, q]⟩ : Shape).Idx)
    (hf : ∀ t j, (f t j 0).val = t.val % 8 ∧ (f t j 1).val = k * (t.val / 8) + (j 1).val ∧ (f t j 2).val = (j 2).val ∧ (f t j 3).val = (j 3).val)
    (i : (⟨4, ![8, k * 4, 160, q]⟩ : Shape).Idx) : ∃ t j, f t j = i := by
  have h0 : (i 0).val < 8 := (i 0).isLt
  have h1 : (i 1).val / k < 4 := Nat.div_lt_of_lt_mul (i 1).isLt
  refine ⟨⟨8 * ((i 1).val / k) + (i 0).val, show _ < 32 by omega⟩, ix4 0 ⟨(i 1).val % k, Nat.mod_lt _ hk⟩ (i 2) (i 3), funext fun a => Fin.ext ?_⟩
  obtain ⟨e0, e1, e2, e3⟩ := hf ⟨8 * ((i 1).val / k) + (i 0).val, show _ < 32 by omega⟩ (ix4 0 ⟨(i 1).val % k, Nat.mod_lt _ hk⟩ (i 2) (i 3))
  match a with
  | ⟨0, _⟩ => refine e0.trans ?_; show (8 * ((i 1).val / k) + (i 0).val) % 8 = (i 0).val; omega
  | ⟨1, _⟩ =>
    refine e1.trans ?_
    show k * ((8 * ((i 1).val / k) + (i 0).val) / 8) + (i 1).val % k = (i 1).val
    rw [show (8 * ((i 1).val / k) + (i 0).val) / 8 = (i 1).val / k by omega]
    exact Nat.div_add_mod _ _
  | ⟨2, _⟩ => exact e2
  | ⟨3, _⟩ => exact e3

theorem emb11 (t : Fin cfg0.N) (j : S1x1024x512.Idx) : ((((cfg0.win 11).blk t).view.emb j : S8x4096x512.Idx) 0).val = t.val % 8
    ∧ ((((cfg0.win 11).blk t).view.emb j : S8x4096x512.Idx) 1).val = 1024 * (t.val / 8) + (j 1).val
    ∧ ((((cfg0.win 11).blk t).view.emb j : S8x4096x512.Idx) 2).val = (j 2).val := by
  obtain ⟨e0, e1, e2⟩ := (idx_rows t).1
  have hj : (j 0).val < 1 := (j 0).isLt
  refine ⟨?_, ?_, ?_⟩
  · show win0_11.index t (0 : Fin 3) * 1 + 1 * (j 0).val = t.val % 8; omega
  · show win0_11.index t (1 : Fin 3) * 1024 + 1 * (j 1).val = 1024 * (t.val / 8) + (j 1).val; omega
  · show win0_11.index t (2 : Fin 3) * 512 + 1 * (j 2).val = (j 2).val; omega

theorem emb12 (t : Fin cfg0.N) (j : S1x1024x128.Idx) : ((((cfg0.win 12).blk t).view.emb j : S8x4096x128.Idx) 0).val = t.val % 8
    ∧ ((((cfg0.win 12).blk t).view.emb j : S8x4096x128.Idx) 1).val = 1024 * (t.val / 8) + (j 1).val
    ∧ ((((cfg0.win 12).blk t).view.emb j : S8x4096x128.Idx) 2).val = (j 2).val := by
  obtain ⟨e0, e1, e2⟩ := (idx_rows t).2.1
  have hj : (j 0).val < 1 := (j 0).isLt
  refine ⟨?_, ?_, ?_⟩
  · show win0_12.index t (0 : Fin 3) * 1 + 1 * (j 0).val = t.val % 8; omega
  · show win0_12.index t (1 : Fin 3) * 1024 + 1 * (j 1).val = 1024 * (t.val / 8) + (j 1).val; omega
  · show win0_12.index t (2 : Fin 3) * 128 + 1 * (j 2).val = (j 2).val; omega

theorem emb14 (t : Fin cfg0.N) (j : S1x1024x512.Idx) : ((((cfg0.win 14).blk t).view.emb j : S8x4096x512.Idx) 0).val = t.val % 8
    ∧ ((((cfg0.win 14).blk t).view.emb j : S8x4096x512.Idx) 1).val = 1024 * (t.val / 8) + (j 1).val
    ∧ ((((cfg0.win 14).blk t).view.emb j : S8x4096x512.Idx) 2).val = (j 2).val := by
  obtain ⟨e0, e1, e2⟩ := (idx_rows t).2.2.1
  have hj : (j 0).val < 1 := (j 0).isLt
  refine ⟨?_, ?_, ?_⟩
  · show win0_14.index t (0 : Fin 3) * 1 + 1 * (j 0).val = t.val % 8; omega
  · show win0_14.index t (1 : Fin 3) * 1024 + 1 * (j 1).val = 1024 * (t.val / 8) + (j 1).val; omega
  · show win0_14.index t (2 : Fin 3) * 512 + 1 * (j 2).val = (j 2).val; omega

theorem emb15 (t : Fin cfg0.N) (j : S1x1024x128.Idx) : ((((cfg0.win 15).blk t).view.emb j : S8x4096x128.Idx) 0).val = t.val % 8
    ∧ ((((cfg0.win 15).blk t).view.emb j : S8x4096x128.Idx) 1).val = 1024 * (t.val / 8) + (j 1).val
    ∧ ((((cfg0.win 15).blk t).view.emb j : S8x4096x128.Idx) 2).val = (j 2).val := by
  obtain ⟨e0, e1, e2⟩ := (idx_rows t).2.2.2
  have hj : (j 0).val < 1 := (j 0).isLt
  refine ⟨?_, ?_, ?_⟩
  · show win0_15.index t (0 : Fin 3) * 1 + 1 * (j 0).val = t.val % 8; omega
  · show win0_15.index t (1 : Fin 3) * 1024 + 1 * (j 1).val = 1024 * (t.val / 8) + (j 1).val; omega
  · show win0_15.index t (2 : Fin 3) * 128 + 1 * (j 2).val = (j 2).val; omega

theorem emb13 (t : Fin cfg0.N) (j : S1x4x160x256.Idx) : ((((cfg0.win 13).blk t).view.emb j : S8x16x160x256.Idx) 0).val = t.val % 8
    ∧ ((((cfg0.win 13).blk t).view.emb j : S8x16x160x256.Idx) 1).val = 4 * (t.val / 8) + (j 1).val
    ∧ ((((cfg0.win 13).blk t).view.emb j : S8x16x160x256.Idx) 2).val = (j 2).val
    ∧ ((((cfg0.win 13).blk t).view.emb j : S8x16x160x256.Idx) 3).val = (j 3).val := by
  obtain ⟨e0, e1, e2, e3⟩ := (idx_columns t).1
  have hj : (j 0).val < 1 := (j 0).isLt
  refine ⟨?_, ?_, ?_, ?_⟩
  · show win0_13.index t (0 : Fin 4) * 1 + 1 * (j 0).val = t.val % 8; omega
  · show win0_13.index t (1 : Fin 4) * 4 + 1 * (j 1).val = 4 * (t.val / 8) + (j 1).val; omega
  · show win0_13.index t (2 : Fin 4) * 160 + 1 * (j 2).val = (j 2).val; omega
  · show win0_13.index t (3 : Fin 4) * 256 + 1 * (j 3).val = (j 3).val; omega

theorem emb16 (t : Fin cfg0.N) (j : S1x8x160x128.Idx) : ((((cfg0.win 16).blk t).view.emb j : S8x32x160x128.Idx) 0).val = t.val % 8
    ∧ ((((cfg0.win 16).blk t).view.emb j : S8x32x160x128.Idx) 1).val = 8 * (t.val / 8) + (j 1).val
    ∧ ((((cfg0.win 16).blk t).view.emb j : S8x32x160x128.Idx) 2).val = (j 2).val
    ∧ ((((cfg0.win 16).blk t).view.emb j : S8x32x160x128.Idx) 3).val = (j 3).val := by
  obtain ⟨e0, e1, e2, e3⟩ := (idx_columns t).2
  have hj : (j 0).val < 1 := (j 0).isLt
  refine ⟨?_, ?_, ?_, ?_⟩
  · show win0_16.index t (0 : Fin 4) * 1 + 1 * (j 0).val = t.val % 8; omega
  · show win0_16.index t (1 : Fin 4) * 8 + 1 * (j 1).val = 8 * (t.val / 8) + (j 1).val; omega
  · show win0_16.index t (2 : Fin 4) * 160 + 1 * (j 2).val = (j 2).val; omega
  · show win0_16.index t (3 : Fin 4) * 128 + 1 * (j 3).val = (j 3).val; omega

/-! ## The call's arrays after the run -/

variable (c : Dev nD)

theorem final11 : (dats m 0 c).arrAt 11 cfg0.N = rowsOf (fun t => (outsAt0 m c t).1) := by
  refine (dats m 0 c).arrAt_eq_of_cover 11 _ (fun t _ => ?_) (fun i => ?_)
  · show (cfg0.win 11).cut (grid0.coords t) ((dats m 0 c).after 11 t) = _
    rw [after0_11]
    funext j
    have e := emb11 t j
    exact rowsOf_block (fun t => (outsAt0 m c t).1) t j _ e.1 e.2.1 e.2.2
  · obtain ⟨t, j, e⟩ := rows_reach (fun t => ((cfg0.win 11).blk t).view.emb) emb11 i
    exact ⟨t, flush0_11 t, e ▸ ((cfg0.win 11).blk t).view.emb_mem_set j⟩

theorem final12 : (dats m 0 c).arrAt 12 cfg0.N = rowsOf (fun t => (outsAt0 m c t).2.1) := by
  refine (dats m 0 c).arrAt_eq_of_cover 12 _ (fun t _ => ?_) (fun i => ?_)
  · show (cfg0.win 12).cut (grid0.coords t) ((dats m 0 c).after 12 t) = _
    rw [after0_12]
    funext j
    have e := emb12 t j
    exact rowsOf_block (fun t => (outsAt0 m c t).2.1) t j _ e.1 e.2.1 e.2.2
  · obtain ⟨t, j, e⟩ := rows_reach (fun t => ((cfg0.win 12).blk t).view.emb) emb12 i
    exact ⟨t, flush0_12 t, e ▸ ((cfg0.win 12).blk t).view.emb_mem_set j⟩

theorem final13 : (dats m 0 c).arrAt 13 cfg0.N = columnsOf (k := 4) (by omega) (fun t => (outsAt0 m c t).2.2.1) := by
  refine (dats m 0 c).arrAt_eq_of_cover 13 _ (fun t _ => ?_) (fun i => ?_)
  · show (cfg0.win 13).cut (grid0.coords t) ((dats m 0 c).after 13 t) = _
    rw [after0_13]
    funext j
    have e := emb13 t j
    exact columnsOf_block (k := 4) (by omega) (fun t => (outsAt0 m c t).2.2.1) t j _ e.1 e.2.1 e.2.2.1 e.2.2.2
  · obtain ⟨t, j, e⟩ := columns_reach (k := 4) (by omega) (fun t => ((cfg0.win 13).blk t).view.emb) emb13 i
    exact ⟨t, flush0_13 t, e ▸ ((cfg0.win 13).blk t).view.emb_mem_set j⟩

theorem final14 : (dats m 0 c).arrAt 14 cfg0.N = rowsOf (fun t => (outsAt0 m c t).2.2.2.1) := by
  refine (dats m 0 c).arrAt_eq_of_cover 14 _ (fun t _ => ?_) (fun i => ?_)
  · show (cfg0.win 14).cut (grid0.coords t) ((dats m 0 c).after 14 t) = _
    rw [after0_14]
    funext j
    have e := emb14 t j
    exact rowsOf_block (fun t => (outsAt0 m c t).2.2.2.1) t j _ e.1 e.2.1 e.2.2
  · obtain ⟨t, j, e⟩ := rows_reach (fun t => ((cfg0.win 14).blk t).view.emb) emb14 i
    exact ⟨t, flush0_14 t, e ▸ ((cfg0.win 14).blk t).view.emb_mem_set j⟩

theorem final15 : (dats m 0 c).arrAt 15 cfg0.N = rowsOf (fun t => (outsAt0 m c t).2.2.2.2.1) := by
  refine (dats m 0 c).arrAt_eq_of_cover 15 _ (fun t _ => ?_) (fun i => ?_)
  · show (cfg0.win 15).cut (grid0.coords t) ((dats m 0 c).after 15 t) = _
    rw [after0_15]
    funext j
    have e := emb15 t j
    exact rowsOf_block (fun t => (outsAt0 m c t).2.2.2.2.1) t j _ e.1 e.2.1 e.2.2
  · obtain ⟨t, j, e⟩ := rows_reach (fun t => ((cfg0.win 15).blk t).view.emb) emb15 i
    exact ⟨t, flush0_15 t, e ▸ ((cfg0.win 15).blk t).view.emb_mem_set j⟩

theorem final16 : (dats m 0 c).arrAt 16 cfg0.N = columnsOf (k := 8) (by omega) (fun t => (outsAt0 m c t).2.2.2.2.2) := by
  refine (dats m 0 c).arrAt_eq_of_cover 16 _ (fun t _ => ?_) (fun i => ?_)
  · show (cfg0.win 16).cut (grid0.coords t) ((dats m 0 c).after 16 t) = _
    rw [after0_16]
    funext j
    have e := emb16 t j
    exact columnsOf_block (k := 8) (by omega) (fun t => (outsAt0 m c t).2.2.2.2.2) t j _ e.1 e.2.1 e.2.2.1 e.2.2.2
  · obtain ⟨t, j, e⟩ := columns_reach (k := 8) (by omega) (fun t => ((cfg0.win 16).blk t).view.emb) emb16 i
    exact ⟨t, flush0_16 t, e ▸ ((cfg0.win 16).blk t).view.emb_mem_set j⟩

/-! ## The host lines after the call -/

/-- The grid point and row of position `s` of batch `b`. -/
theorem place_row (b : Fin 8) (s : Fin 4096) (h : s.val / 1024 < 4) :
    batchAt (tile b.val (s.val / 1024) b.isLt h) = b ∧ posAt (tile b.val (s.val / 1024) b.isLt h) ⟨s.val % 1024, by omega⟩ = s := by
  refine ⟨Fin.ext ?_, Fin.ext ?_⟩
  · show (8 * (s.val / 1024) + b.val) % 8 = b.val; omega
  · show 1024 * ((8 * (s.val / 1024) + b.val) / 8) + s.val % 1024 = s.val; omega

/-- The same for a stack of columns of `q` positions, `k` of them to a tile. -/
theorem place_column (b : Fin 8) (s : Fin 4096) (k q : ℕ) (hk : 0 < k) (hq : 0 < q) (hkq : k * q = 1024) (h : s.val / q / k < 4)
    (hp : q * (s.val / q % k) + s.val % q < 1024) :
    batchAt (tile b.val (s.val / q / k) b.isLt h) = b
      ∧ posAt (tile b.val (s.val / q / k) b.isLt h) ⟨q * (s.val / q % k) + s.val % q, hp⟩ = s := by
  refine ⟨Fin.ext ?_, Fin.ext ?_⟩
  · show (8 * (s.val / q / k) + b.val) % 8 = b.val; omega
  · show 1024 * ((8 * (s.val / q / k) + b.val) / 8) + (q * (s.val / q % k) + s.val % q) = s.val
    have e1 := Nat.div_add_mod s.val q
    have e2 := congrArg (q * ·) (Nat.div_add_mod (s.val / q) k)
    rw [Nat.mul_add, ← Nat.mul_assoc, Nat.mul_comm q k, hkq] at e2
    omega

theorem queries_a : (Pipeline.afterTail₀ cfgs (dats m) 0 (V0 m) [hostOps1] c main_v79 : Vec Ideal S8x4096x8x64 .bf16)
    = val_main_v161 (F := Ideal) (a0 m c) (a1 m c) (a2 m c) (a3 m c) := by
  have tail : (Pipeline.afterTail₀ cfgs (dats m) 0 (V0 m) [hostOps1] c main_v79 : Vec Ideal S8x4096x8x64 .bf16)
      = eightHeads ((dats m 0 c).arrAt 11 cfg0.N) := by
    unfold Pipeline.afterTail₀
    simp only [hostOps1, List.flatten_cons, List.flatten_nil, List.append_nil]
    after_results
    exact congrArg eightHeads (Pipeline.withArrays_arr (τ := τ) spec0 winFacts0.arr_inj c (V0 m c) (fun w => (dats m 0 c).arrAt w cfg0.N) 11)
  rw [tail, final11]
  funext i
  idx_vars i
  have p := point_queries_a m c (tile i0.val (i1.val / 1024) i0.isLt (by omega)) ⟨i1.val % 1024, by omega⟩ i2 i3
  obtain ⟨eb, es⟩ := place_row i0 i1 (by omega)
  rw [eightHeads_apply]
  rw [eb, es] at p
  exact p

theorem keys_a : (Pipeline.afterTail₀ cfgs (dats m) 0 (V0 m) [hostOps1] c main_v82 : Vec Ideal S8x4096x2x64 .bf16)
    = val_main_v162 (F := Ideal) (a0 m c) (a1 m c) (a2 m c) (a4 m c) := by
  have tail : (Pipeline.afterTail₀ cfgs (dats m) 0 (V0 m) [hostOps1] c main_v82 : Vec Ideal S8x4096x2x64 .bf16)
      = twoHeads ((dats m 0 c).arrAt 12 cfg0.N) := by
    unfold Pipeline.afterTail₀
    simp only [hostOps1, List.flatten_cons, List.flatten_nil, List.append_nil]
    after_results
    exact congrArg twoHeads (Pipeline.withArrays_arr (τ := τ) spec0 winFacts0.arr_inj c (V0 m c) (fun w => (dats m 0 c).arrAt w cfg0.N) 12)
  rw [tail, final12]
  funext i
  idx_vars i
  have p := point_keys_a m c (tile i0.val (i1.val / 1024) i0.isLt (by omega)) ⟨i1.val % 1024, by omega⟩ i2 i3
  obtain ⟨eb, es⟩ := place_row i0 i1 (by omega)
  rw [twoHeads_apply]
  rw [eb, es] at p
  exact p

theorem values_a : (Pipeline.afterTail₀ cfgs (dats m) 0 (V0 m) [hostOps1] c main_v86 : Vec Ideal S8x4096x2x64 .bf16)
    = val_main_v163 (F := Ideal) (a0 m c) (a1 m c) (a2 m c) := by
  have tail : (Pipeline.afterTail₀ cfgs (dats m) 0 (V0 m) [hostOps1] c main_v86 : Vec Ideal S8x4096x2x64 .bf16)
      = wideColumns ((dats m 0 c).arrAt 13 cfg0.N) := by
    unfold Pipeline.afterTail₀
    simp only [hostOps1, List.flatten_cons, List.flatten_nil, List.append_nil]
    after_results
    exact congrArg wideColumns (Pipeline.withArrays_arr (τ := τ) spec0 winFacts0.arr_inj c (V0 m c) (fun w => (dats m 0 c).arrAt w cfg0.N) 13)
  rw [tail, final13]
  funext i
  idx_vars i
  have p := point_values_a m c (tile i0.val (i1.val / 256 / 4) i0.isLt (by omega)) ⟨i1.val / 256 % 4, by omega⟩ i2 i3 ⟨i1.val % 256, by omega⟩
  obtain ⟨eb, es⟩ := place_column i0 i1 4 256 (by omega) (by omega) (by omega) (by omega) (by omega)
  rw [wideColumns_apply]
  rw [eb, es] at p
  exact p

theorem queries_b : (Pipeline.afterTail₀ cfgs (dats m) 0 (V0 m) [hostOps1] c main_v89 : Vec Ideal S8x4096x8x64 .bf16)
    = val_main_v164 (F := Ideal) (a0 m c) (a1 m c) (a2 m c) := by
  have tail : (Pipeline.afterTail₀ cfgs (dats m) 0 (V0 m) [hostOps1] c main_v89 : Vec Ideal S8x4096x8x64 .bf16)
      = eightHeads ((dats m 0 c).arrAt 14 cfg0.N) := by
    unfold Pipeline.afterTail₀
    simp only [hostOps1, List.flatten_cons, List.flatten_nil, List.append_nil]
    after_results
    exact congrArg eightHeads (Pipeline.withArrays_arr (τ := τ) spec0 winFacts0.arr_inj c (V0 m c) (fun w => (dats m 0 c).arrAt w cfg0.N) 14)
  rw [tail, final14]
  funext i
  idx_vars i
  have p := point_queries_b m c (tile i0.val (i1.val / 1024) i0.isLt (by omega)) ⟨i1.val % 1024, by omega⟩ i2 i3
  obtain ⟨eb, es⟩ := place_row i0 i1 (by omega)
  rw [eightHeads_apply]
  rw [eb, es] at p
  exact p

theorem keys_b : (Pipeline.afterTail₀ cfgs (dats m) 0 (V0 m) [hostOps1] c main_v92 : Vec Ideal S8x4096x2x64 .bf16)
    = val_main_v165 (F := Ideal) (a0 m c) (a1 m c) (a2 m c) := by
  have tail : (Pipeline.afterTail₀ cfgs (dats m) 0 (V0 m) [hostOps1] c main_v92 : Vec Ideal S8x4096x2x64 .bf16)
      = twoHeads ((dats m 0 c).arrAt 15 cfg0.N) := by
    unfold Pipeline.afterTail₀
    simp only [hostOps1, List.flatten_cons, List.flatten_nil, List.append_nil]
    after_results
    exact congrArg twoHeads (Pipeline.withArrays_arr (τ := τ) spec0 winFacts0.arr_inj c (V0 m c) (fun w => (dats m 0 c).arrAt w cfg0.N) 15)
  rw [tail, final15]
  funext i
  idx_vars i
  have p := point_keys_b m c (tile i0.val (i1.val / 1024) i0.isLt (by omega)) ⟨i1.val % 1024, by omega⟩ i2 i3
  obtain ⟨eb, es⟩ := place_row i0 i1 (by omega)
  rw [twoHeads_apply]
  rw [eb, es] at p
  exact p

theorem values_b : (Pipeline.afterTail₀ cfgs (dats m) 0 (V0 m) [hostOps1] c main_v96 : Vec Ideal S8x4096x2x64 .bf16)
    = val_main_v166 (F := Ideal) (a0 m c) (a1 m c) (a2 m c) := by
  have tail : (Pipeline.afterTail₀ cfgs (dats m) 0 (V0 m) [hostOps1] c main_v96 : Vec Ideal S8x4096x2x64 .bf16)
      = narrowColumns ((dats m 0 c).arrAt 16 cfg0.N) := by
    unfold Pipeline.afterTail₀
    simp only [hostOps1, List.flatten_cons, List.flatten_nil, List.append_nil]
    after_results
    exact congrArg narrowColumns (Pipeline.withArrays_arr (τ := τ) spec0 winFacts0.arr_inj c (V0 m c) (fun w => (dats m 0 c).arrAt w cfg0.N) 16)
  rw [tail, final16]
  funext i
  idx_vars i
  have p := point_values_b m c (tile i0.val (i1.val / 128 / 8) i0.isLt (by omega)) ⟨i1.val / 128 % 8, by omega⟩ i2 i3 ⟨i1.val % 128, by omega⟩
  obtain ⟨eb, es⟩ := place_column i0 i1 8 128 (by omega) (by omega) (by omega) (by omega) (by omega)
  rw [narrowColumns_apply]
  rw [eb, es] at p
  exact p

/-- Every run ends with the six results at the reference's functions of the arguments and the arguments unchanged. -/
theorem run : θ_run defs (onTc (τ := τ) (main (F := Ideal))) ⟨m, fun _ => 0, ρ⟩ (fun r => ∀ c : Dev nD,
      r.2.mem ((c.tc : Thread nD τ).loc main_v79) = val_main_v161 (F := Ideal) (a0 m c) (a1 m c) (a2 m c) (a3 m c)
      ∧ r.2.mem ((c.tc : Thread nD τ).loc main_v82) = val_main_v162 (F := Ideal) (a0 m c) (a1 m c) (a2 m c) (a4 m c)
      ∧ r.2.mem ((c.tc : Thread nD τ).loc main_v86) = val_main_v163 (F := Ideal) (a0 m c) (a1 m c) (a2 m c)
      ∧ r.2.mem ((c.tc : Thread nD τ).loc main_v89) = val_main_v164 (F := Ideal) (a0 m c) (a1 m c) (a2 m c)
      ∧ r.2.mem ((c.tc : Thread nD τ).loc main_v92) = val_main_v165 (F := Ideal) (a0 m c) (a1 m c) (a2 m c)
      ∧ r.2.mem ((c.tc : Thread nD τ).loc main_v96) = val_main_v166 (F := Ideal) (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun _ h c => ?_) (θ_run_and (run_main m ρ) (unchanged m ρ))
  exact ⟨((h.1 c).2 main_v79 (Pipeline.mem_restRefs_of main_v79 (by decide) (by decide))).trans (queries_a m c),
    ((h.1 c).2 main_v82 (Pipeline.mem_restRefs_of main_v82 (by decide) (by decide))).trans (keys_a m c),
    ((h.1 c).2 main_v86 (Pipeline.mem_restRefs_of main_v86 (by decide) (by decide))).trans (values_a m c),
    ((h.1 c).2 main_v89 (Pipeline.mem_restRefs_of main_v89 (by decide) (by decide))).trans (queries_b m c),
    ((h.1 c).2 main_v92 (Pipeline.mem_restRefs_of main_v92 (by decide) (by decide))).trans (keys_b m c),
    ((h.1 c).2 main_v96 (Pipeline.mem_restRefs_of main_v96 (by decide) (by decide))).trans (values_b m c), h.2 c⟩

end Cert.ProjIdeal.Hand
-- ==== Proof.lean ====
/- The claims: the frames of Post and Proj and of their idealizations are the generated ones, the attention's two are from
   one run in Proof/Attention/Frame.lean, a reference's holds because nothing writes its arguments, and the results of Post
   and Proj agree by Proof/Post/Value.lean and Proof/Proj/Value.lean. -/
module

public import proofs.«01_k».proof.Defs
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostReferenceIdeal
public import proofs.«01_k».proof.Proof.Gen.PostReferenceIdeal.Run
public import proofs.«01_k».proof.Proof.Gen.PostReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Gen.ReferenceIdeal
public import proofs.«01_k».proof.Proof.Gen.ReferenceIdeal.Run
public import proofs.«01_k».proof.Proof.Attention.Frame
public import proofs.«01_k».proof.Proof.Attention.Printed
public import proofs.«01_k».proof.Proof.Post.Value
public import proofs.«01_k».proof.Proof.Proj.Value
public import Idealize.ShloMosaic.Adequacy
public import Idealize.ShloMosaic.Init

@[expose] public section

noncomputable section

namespace Cert.Proof

open Idealize.ShloMosaic Idealize.SL.Sem

/-- The output projection and feed-forward call: the kernel's result is the reference's. -/
theorem algebraic_post [Cert.PostIdeal.Facts] [Cert.PostReferenceIdeal.Facts] : Cert.algebraic_PostIdeal_PostReferenceIdeal := by
  intro m g m' g' _ hagree
  refine ⟨fun c => Cert.PostIdeal.Hand.result m c, Cert.PostIdeal.Hand.run m g,
    (θ_run _ _ _).mono (fun r h c => ⟨(h c).1.trans ?_, (h c).2⟩) (Cert.PostReferenceIdeal.Value.run (F := Ideal) m' g')⟩
  rw [Cert.PostReferenceIdeal.Read.val_main_v53_eq]
  obtain ⟨e0, e1, e2, e3, e4, e5, e6, e7, e8⟩ := hagree c
  rw [e0, e1, e2, e3, e4, e5, e6, e7, e8]
  rfl

/-- The reference's frame: no operation writes an argument, and it declares no semaphore. -/
theorem frame_post_reference [Cert.PostReferenceIdeal.Facts] : Cert.quiescent_PostReferenceIdeal := by
  intro m ρ _
  exact (θ_run Cert.PostReferenceIdeal.defs _ _).mono (fun r h => ⟨fun c => (h c).2, sem_eq_zero_of_no_sems (by decide) r.2⟩)
    (Cert.PostReferenceIdeal.Value.run (F := Ideal) m ρ)

/-- The input projection call: its six results are the reference's. -/
theorem algebraic_proj [Cert.ProjIdeal.Facts] [Cert.ProjReferenceIdeal.Facts] : Cert.algebraic_ProjIdeal_ProjReferenceIdeal := by
  intro m g m' g' _ hagree
  refine ⟨_, _, _, _, _, _, Cert.ProjIdeal.Hand.run m g, (θ_run _ _ _).mono (fun r h c => ?_) (Cert.ProjReferenceIdeal.Value.run (F := Ideal) m' g')⟩
  obtain ⟨h1, h2, h3, h4, h5, h6, h7⟩ := h c
  rw [Cert.ProjReferenceIdeal.Read.val_main_v161_eq] at h1
  rw [Cert.ProjReferenceIdeal.Read.val_main_v162_eq] at h2
  rw [Cert.ProjReferenceIdeal.Read.val_main_v163_eq] at h3
  rw [Cert.ProjReferenceIdeal.Read.val_main_v164_eq] at h4
  rw [Cert.ProjReferenceIdeal.Read.val_main_v165_eq] at h5
  rw [Cert.ProjReferenceIdeal.Read.val_main_v166_eq] at h6
  obtain ⟨e0, e1, e2, e3, e4⟩ := hagree c
  rw [e0, e1, e2, e3] at h1
  rw [e0, e1, e2, e4] at h2
  rw [e0, e1, e2] at h3 h4 h5 h6
  exact ⟨h1, h2, h3, h4, h5, h6, h7⟩

/-- The projection reference's frame. -/
theorem frame_proj_reference [Cert.ProjReferenceIdeal.Facts] : Cert.quiescent_ProjReferenceIdeal := by
  intro m ρ _
  exact (θ_run Cert.ProjReferenceIdeal.defs _ _).mono
    (fun r h => ⟨fun c => (h c).2.2.2.2.2.2, sem_eq_zero_of_no_sems (by decide) r.2⟩)
    (Cert.ProjReferenceIdeal.Value.run (F := Ideal) m ρ)

/-- The attention reference's frame. -/
theorem frame_attention_reference [Cert.ReferenceIdeal.Facts] : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Post.Gen.facts, Cert.PostIdeal.Gen.facts, Cert.PostReferenceIdeal.Gen.facts,
  Cert.Proj.Gen.facts, Cert.ProjIdeal.Gen.facts, Cert.ProjReferenceIdeal.Gen.facts,
  Cert.Kernel.Gen.facts, Cert.KernelIdeal.Gen.facts, Cert.ReferenceIdeal.Gen.facts,
  fun m ρ _ => Cert.Post.Gen.frame m ρ,
  fun m ρ _ => Cert.PostIdeal.Gen.frame m ρ,
  frame_post_reference,
  fun m ρ _ => Cert.Proj.Gen.frame m ρ,
  fun m ρ _ => Cert.ProjIdeal.Gen.frame m ρ,
  frame_proj_reference,
  Cert.Kernel.Attention.frame,
  fun m ρ _ => Cert.KernelIdeal.Attention.frame m ρ,
  frame_attention_reference,
  trivial,
  algebraic_post,
  trivial,
  algebraic_proj,
  trivial⟩

end Cert.Proof

end
